-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "no_floor" .f32 0x006CE3EE#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S20000x80 : Shape := ⟨2, ![20000, 80]⟩
abbrev S20000x128 : Shape := ⟨2, ![20000, 128]⟩
abbrev S128 : Shape := ⟨1, ![128]⟩
abbrev S_ : Shape := ⟨0, ![]⟩

class Facts : Prop where
  bcast_S_S20000x80 : S_.BroadcastsInDim S20000x80 (![] : Fin 0 → Fin S20000x80.rank)
  bcast_S_S20000x128 : S_.BroadcastsInDim S20000x128 (![] : Fin 0 → Fin S20000x128.rank)
  bcast_S_S128 : S_.BroadcastsInDim S128 (![] : Fin 0 → Fin S128.rank)

variable [Facts]

def fn {F : FTy → Type} [FloatOps F] (main_arg0 : FVec F S20000x80 .f32) (main_arg1 : FVec F S20000x80 .f32) (main_arg2 : FVec F S20000x80 .f32) (main_arg3 : IVec S20000x128 32) (main_arg4 : IVec S128 32) (main_arg5 : IVec S_ 32) : IVec S20000x80 1 × IVec S20000x80 1 × IVec S20000x80 1 × IVec S20000x80 1 × IVec S20000x128 1 × IVec S20000x128 1 × IVec S128 1 × IVec S128 1 :=
  let main_cst : FVec F S_ .f32 := constant S_ .f32 0x00000000#32
  let main_v0 : FVec F S20000x80 .f32 := broadcastInDim S20000x80 ![] bcast_S_S20000x80 main_cst
  let main_v1 : IVec S20000x80 1 := cmpf .oge main_arg1 main_v0
  let main_cst_0 : FVec F S_ .f32 := constant S_ .f32 0x3F800000#32
  let main_v2 : FVec F S20000x80 .f32 := broadcastInDim S20000x80 ![] bcast_S_S20000x80 main_cst_0
  let main_v3 : IVec S20000x80 1 := cmpf .ole main_arg1 main_v2
  let main_cst_1 : FVec F S_ .f32 := constant S_ .f32 0x00000000#32
  let main_v4 : FVec F S20000x80 .f32 := broadcastInDim S20000x80 ![] bcast_S_S20000x80 main_cst_1
  let main_v5 : IVec S20000x80 1 := cmpf .oge main_arg2 main_v4
  let main_cst_2 : FVec F S_ .f32 := constant S_ .f32 0x7F800000#32
  let main_v6 : FVec F S20000x80 .f32 := broadcastInDim S20000x80 ![] bcast_S_S20000x80 main_cst_2
  let main_v7 : IVec S20000x80 1 := cmpf .olt main_arg2 main_v6
  let main_c : IVec S_ 32 := constantI S_ 32 0#32
  let main_v8 : IVec S20000x128 32 := broadcastInDim S20000x128 ![] bcast_S_S20000x128 main_c
  let main_v9 : IVec S20000x128 1 := cmpi .sge main_arg3 main_v8
  let main_c_3 : IVec S_ 32 := constantI S_ 32 1#32
  let main_v10 : IVec S20000x128 32 := broadcastInDim S20000x128 ![] bcast_S_S20000x128 main_c_3
  let main_v11 : IVec S20000x128 1 := cmpi .sle main_arg3 main_v10
  let main_c_4 : IVec S_ 32 := constantI S_ 32 0#32
  let main_v12 : IVec S128 32 := broadcastInDim S128 ![] bcast_S_S128 main_c_4
  let main_v13 : IVec S128 1 := cmpi .sge main_arg4 main_v12
  let main_c_5 : IVec S_ 32 := constantI S_ 32 80#32
  let main_v14 : IVec S128 32 := broadcastInDim S128 ![] bcast_S_S128 main_c_5
  let main_v15 : IVec S128 1 := cmpi .slt main_arg4 main_v14
  (main_v1, main_v3, main_v5, main_v7, main_v9, main_v11, main_v13, main_v15)
-- ==== Kernel.lean ====
abbrev S20000x80 : Shape := ⟨2, ![20000, 80]⟩
abbrev S20000x128 : Shape := ⟨2, ![20000, 128]⟩
abbrev S128 : Shape := ⟨1, ![128]⟩
abbrev S_ : Shape := ⟨0, ![]⟩
abbrev S1x128 : Shape := ⟨2, ![1, 128]⟩
abbrev S80x128 : Shape := ⟨2, ![80, 128]⟩
abbrev S8x128 : Shape := ⟨2, ![8, 128]⟩
abbrev S1000x80 : Shape := ⟨2, ![1000, 80]⟩
abbrev S1000x128 : Shape := ⟨2, ![1000, 128]⟩
abbrev S20000x2 : Shape := ⟨2, ![20000, 2]⟩
abbrev S1x80 : Shape := ⟨2, ![1, 80]⟩
abbrev S1x1 : Shape := ⟨2, ![1, 1]⟩
abbrev S2x128 : Shape := ⟨2, ![2, 128]⟩
abbrev S1x1000 : Shape := ⟨2, ![1, 1000]⟩
abbrev S128x1 : Shape := ⟨2, ![128, 1]⟩
abbrev S1000x1 : Shape := ⟨2, ![1000, 1]⟩
abbrev S1000x2 : Shape := ⟨2, ![1000, 2]⟩
abbrev S1 : Shape := ⟨1, ![1]⟩

abbrev nBuf : Space → Nat
  | .hbm => 16
  | .vmem => 19
  | .smem => 0
  | _ => 0

abbrev bufTy : (tb : Table) → Fin (tcTables nBuf tb) → BufTy
  | .hbm, ⟨0, _⟩ => ⟨S20000x80, .f32⟩
  | .hbm, ⟨1, _⟩ => ⟨S20000x80, .f32⟩
  | .hbm, ⟨2, _⟩ => ⟨S20000x80, .f32⟩
  | .hbm, ⟨3, _⟩ => ⟨S20000x128, .i32⟩
  | .hbm, ⟨4, _⟩ => ⟨S128, .i32⟩
  | .hbm, ⟨5, _⟩ => ⟨S_, .i32⟩
  | .hbm, ⟨6, _⟩ => ⟨S1x128, .i32⟩
  | .hbm, ⟨7, _⟩ => ⟨S80x128, .i32⟩
  | .hbm, ⟨8, _⟩ => ⟨S80x128, .i32⟩
  | .hbm, ⟨9, _⟩ => ⟨S80x128, .i1⟩
  | .hbm, ⟨10, _⟩ => ⟨S80x128, .f32⟩
  | .hbm, ⟨11, _⟩ => ⟨S8x128, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S80x128, .f32⟩
  | .local _ .vmem, ⟨1, _⟩ => ⟨S1000x80, .f32⟩
  | .local _ .vmem, ⟨2, _⟩ => ⟨S1000x80, .f32⟩
  | .local _ .vmem, ⟨3, _⟩ => ⟨S1000x80, .f32⟩
  | .local _ .vmem, ⟨4, _⟩ => ⟨S1000x80, .f32⟩
  | .local _ .vmem, ⟨5, _⟩ => ⟨S1000x128, .i32⟩
  | .local _ .vmem, ⟨6, _⟩ => ⟨S1000x128, .i32⟩
  | .local _ .vmem, ⟨7, _⟩ => ⟨S1000x80, .f32⟩
  | .local _ .vmem, ⟨8, _⟩ => ⟨S1000x80, .f32⟩
  | .local _ .vmem, ⟨9, _⟩ => ⟨S8x128, .f32⟩
  | .local _ .vmem, ⟨10, _⟩ => ⟨S20000x128, .f32⟩
  | .local _ .vmem, ⟨11, _⟩ => ⟨S20000x128, .f32⟩
  | .local _ .vmem, ⟨12, _⟩ => ⟨S20000x2, .f32⟩
  | .local _ .vmem, ⟨13, _⟩ => ⟨S1x128, .f32⟩
  | .local _ .vmem, ⟨14, _⟩ => ⟨S1x128, .f32⟩
  | .local _ .vmem, ⟨15, _⟩ => ⟨S1x80, .f32⟩
  | .local _ .vmem, ⟨16, _⟩ => ⟨S1x1, .f32⟩
  | .local _ .vmem, ⟨17, _⟩ => ⟨S2x128, .f32⟩
  | .local _ .vmem, ⟨18, _⟩ => ⟨S2x128, .f32⟩
  | _, _ => ⟨S20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![3, 20], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c1000_i32 : BitVec 32 := 1000#32
  let v71 : BitVec 32 := Scalar.muli arg1 c1000_i32
  let v72 : Index := Scalar.indexCast v71
  let c0_33 : Index := 0#32
  ![v72.toNat, 0]
def k0_off2 (i : grid0.Coords) : Fin 2 → Nat :=
  let arg1 : BitVec 32 := BitVec.ofNat 32 (i 1).val
  let c1000_i32_34 : BitVec 32 := 1000#32
  let v76 : BitVec 32 := Scalar.muli arg1 c1000_i32_34
  let v77 : Index := Scalar.indexCast v76
  let c1 : Index := 1#32
  ![v77.toNat, 1]
def k0_off3 (i : grid0.Coords) : Fin 2 → Nat :=
  let arg1 : BitVec 32 := BitVec.ofNat 32 (i 1).val
  let c1000_i32_47 : BitVec 32 := 1000#32
  let v98 : BitVec 32 := Scalar.muli arg1 c1000_i32_47
  let v99 : Index := Scalar.indexCast v98
  let c0_48 : Index := 0#32
  ![v99.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off4 (i : grid0.Coords) : Fin 2 → Nat :=
  let arg1 : BitVec 32 := BitVec.ofNat 32 (i 1).val
  let c1000_i32 : BitVec 32 := 1000#32
  let v23 : BitVec 32 := Scalar.muli arg1 c1000_i32
  let v24 : Index := Scalar.indexCast v23
  let c0_11 : Index := 0#32
  ![v24.toNat, 0]
def k0_cond4 (i : grid0.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_5 : BitVec 32 := 0#32
  let v13 : BitVec 1 := Scalar.cmpi .ne v12 c0_i32_5
  v13

def k0_off5 (i : grid0.Coords) : Fin 2 → Nat :=
  let arg1 : BitVec 32 := BitVec.ofNat 32 (i 1).val
  let c1000_i32 : BitVec 32 := 1000#32
  let v19 : BitVec 32 := Scalar.muli arg1 c1000_i32
  let v20 : Index := Scalar.indexCast v19
  let c0 : Index := 0#32
  ![v20.toNat, 0]
def k0_off6 (i : grid0.Coords) : Fin 2 → Nat :=
  let arg1 : BitVec 32 := BitVec.ofNat 32 (i 1).val
  let c1000_i32_18 : BitVec 32 := 1000#32
  let v45 : BitVec 32 := Scalar.muli arg1 c1000_i32_18
  let v46 : Index := Scalar.indexCast v45
  let c0_19 : Index := 0#32
  ![v46.toNat, 0]
def k0_cond5 (i : grid0.Coords) : BitVec 1 :=
  let arg0 : BitVec 32 := BitVec.ofNat 32 (i 0).val
  let c2_i32_6 : BitVec 32 := 2#32
  let v14 : BitVec 1 := Scalar.cmpi .eq arg0 c2_i32_6
  let arg1 : BitVec 32 := BitVec.ofNat 32 (i 1).val
  let c19_i32 : BitVec 32 := 19#32
  let v15 : BitVec 1 := Scalar.cmpi .eq arg1 c19_i32
  let v16 : BitVec 1 := Scalar.andi v14 v15
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1000x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "no_floor" => some ⊥
  | _ => none
-- ==== ReferenceIdeal.lean ====
abbrev S20000x80 : Shape := ⟨2, ![20000, 80]⟩
abbrev S20000x128 : Shape := ⟨2, ![20000, 128]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S20000 : Shape := ⟨1, ![20000]⟩
abbrev S20000x1 : Shape := ⟨2, ![20000, 1]⟩

abbrev nBuf : Space → Nat
  | .hbm => 228
  | .vmem => 0
  | .smem => 0
  | _ => 0

abbrev hbmTy0_0 (i : Nat) : BufTy := match i % 128 with
  | 0 => ⟨S20000x80, .f32⟩
  | 1 => ⟨S20000x80, .f32⟩
  | 2 => ⟨S20000x80, .f32⟩
  | 3 => ⟨S20000x128, .i32⟩
  | 4 => ⟨S128, .i32⟩
  | 5 => ⟨S_, .i32⟩
  | 6 => ⟨S20000x80, .f32⟩
  | 7 => ⟨S20000x80, .f32⟩
  | 8 => ⟨S_, .f32⟩
  | 9 => ⟨S20000x80, .f32⟩
  | 10 => ⟨S20000x80, .f32⟩
  | 11 => ⟨S_, .f32⟩
  | 12 => ⟨S20000x80, .f32⟩
  | 13 => ⟨S20000x80, .f32⟩
  | 14 => ⟨S_, .f32⟩
  | 15 => ⟨S_, .f32⟩
  | 16 => ⟨S_, .f32⟩
  | 17 => ⟨S20000x80, .f32⟩
  | 18 => ⟨S20000x80, .f32⟩
  | 19 => ⟨S_, .f32⟩
  | 20 => ⟨S20000x80, .f32⟩
  | 21 => ⟨S20000x80, .f32⟩
  | 22 => ⟨S20000x128, .f32⟩
  | 23 => ⟨S_, .f32⟩
  | 24 => ⟨S20000x128, .f32⟩
  | 25 => ⟨S20000x128, .i1⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S1, .i32⟩
  | 35 => ⟨S_, .i32⟩
  | 36 => ⟨S128x1, .i32⟩
  | 37 => ⟨S128x1, .i1⟩
  | 38 => ⟨S1x1, .i32⟩
  | 39 => ⟨S128x1, .i32⟩
  | 40 => ⟨S128x1, .i1⟩
  | 41 => ⟨S128x1, .i1⟩
  | 42 => ⟨S_, .i1⟩
  | 43 => ⟨S128, .i1⟩
  | 44 => ⟨S20000x128, .f32⟩
  | 45 => ⟨S20000x128, .i1⟩
  | 46 => ⟨S_, .f32⟩
  | 47 => ⟨S20000x128, .f32⟩
  | 48 => ⟨S20000x128, .f32⟩
  | 49 => ⟨S20000x128, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S1, .i32⟩
  | 59 => ⟨S_, .i32⟩
  | 60 => ⟨S128x1, .i32⟩
  | 61 => ⟨S128x1, .i1⟩
  | 62 => ⟨S1x1, .i32⟩
  | 63 => ⟨S128x1, .i32⟩
  | 64 => ⟨S128x1, .i1⟩
  | 65 => ⟨S128x1, .i1⟩
  | 66 => ⟨S_, .i1⟩
  | 67 => ⟨S128, .i1⟩
  | 68 => ⟨S20000x128, .f32⟩
  | 69 => ⟨S20000x128, .i1⟩
  | 70 => ⟨S_, .f32⟩
  | 71 => ⟨S20000x128, .f32⟩
  | 72 => ⟨S20000x128, .f32⟩
  | 73 => ⟨S20000x128, .f32⟩
  | 74 => ⟨S_, .i1⟩
  | 75 => ⟨S128, .i1⟩
  | 76 => ⟨S_, .f32⟩
  | 77 => ⟨S_, .f32⟩
  | 78 => ⟨S20000x128, .f32⟩
  | 79 => ⟨S20000x128, .f32⟩
  | 80 => ⟨S_, .f32⟩
  | 81 => ⟨S128, .f32⟩
  | 82 => ⟨S_, .f32⟩
  | 83 => ⟨S_, .f32⟩
  | 84 => ⟨S20000x128, .f32⟩
  | 85 => ⟨S20000x128, .f32⟩
  | 86 => ⟨S1x128, .f32⟩
  | 87 => ⟨S20000x128, .f32⟩
  | 88 => ⟨S20000x128, .f32⟩
  | 89 => ⟨S20000x128, .f32⟩
  | 90 => ⟨S_, .f32⟩
  | 91 => ⟨S_, .f32⟩
  | 92 => ⟨S20000x128, .f32⟩
  | 93 => ⟨S20000x128, .f32⟩
  | 94 => ⟨S_, .f32⟩
  | 95 => ⟨S128, .f32⟩
  | 96 => ⟨S_, .f32⟩
  | 97 => ⟨S20000x128, .f32⟩
  | 98 => ⟨S20000x128, .f32⟩
  | 99 => ⟨S1x128, .f32⟩
  | 100 => ⟨S_, .f32⟩
  | 101 => ⟨S1x128, .f32⟩
  | 102 => ⟨S1x128, .f32⟩
  | 103 => ⟨S20000x128, .f32⟩
  | 104 => ⟨S20000x128, .f32⟩
  | 105 => ⟨S1x128, .i1⟩
  | 106 => ⟨S20000x128, .i1⟩
  | 107 => ⟨S20000x128, .i1⟩
  | 108 => ⟨S_, .f32⟩
  | 109 => ⟨S_, .f32⟩
  | 110 => ⟨S20000x128, .f32⟩
  | 111 => ⟨S20000x128, .f32⟩
  | 112 => ⟨S_, .f32⟩
  | 113 => ⟨S20000, .f32⟩
  | 114 => ⟨S_, .f32⟩
  | 115 => ⟨S20000, .f32⟩
  | 116 => ⟨S20000, .i1⟩
  | 117 => ⟨S_, .f32⟩
  | 118 => ⟨S20000x80, .f32⟩
  | 119 => ⟨S_, .f32⟩
  | 120 => ⟨S_, .f32⟩
  | 121 => ⟨S20000, .f32⟩
  | 122 => ⟨S20000, .f32⟩
  | 123 => ⟨S20000, .f32⟩
  | 124 => ⟨S_, .i32⟩
  | 125 => ⟨S1, .i32⟩
  | 126 => ⟨S20000, .f32⟩
  | 127 => ⟨S20000x80, .f32⟩
  | _ => ⟨S20000x80, .f32⟩

abbrev hbmTy0_1 (i : Nat) : BufTy := match i % 128 with
  | 0 => ⟨S_, .f32⟩
  | 1 => ⟨S20000x80, .f32⟩
  | 2 => ⟨S20000x80, .i1⟩
  | 3 => ⟨S_, .f32⟩
  | 4 => ⟨S20000x80, .f32⟩
  | 5 => ⟨S20000x80, .f32⟩
  | 6 => ⟨S20000x80, .f32⟩
  | 7 => ⟨S20000x80, .f32⟩
  | 8 => ⟨S_, .f32⟩
  | 9 => ⟨S20000x80, .f32⟩
  | 10 => ⟨S20000x80, .f32⟩
  | 11 => ⟨S20000x80, .f32⟩
  | 12 => ⟨S_, .f32⟩
  | 13 => ⟨S_, .f32⟩
  | 14 => ⟨S20000x80, .f32⟩
  | 15 => ⟨S20000x80, .f32⟩
  | 16 => ⟨S_, .f32⟩
  | 17 => ⟨S_, .f32⟩
  | 18 => ⟨S_, .f32⟩
  | 19 => ⟨S_, .f32⟩
  | 20 => ⟨S20000x1, .f32⟩
  | 21 => ⟨S20000, .f32⟩
  | 22 => ⟨S_, .f32⟩
  | 23 => ⟨S20000x128, .f32⟩
  | 24 => ⟨S20000x128, .i1⟩
  | 25 => ⟨S_, .f32⟩
  | 26 => ⟨S_, .f32⟩
  | 27 => ⟨S_, .f32⟩
  | 28 => ⟨S20000x128, .f32⟩
  | 29 => ⟨S20000x128, .f32⟩
  | 30 => ⟨S_, .f32⟩
  | 31 => ⟨S20000x128, .f32⟩
  | 32 => ⟨S20000x128, .f32⟩
  | 33 => ⟨S20000x128, .f32⟩
  | 34 => ⟨S_, .f32⟩
  | 35 => ⟨S128, .f32⟩
  | 36 => ⟨S_, .f32⟩
  | 37 => ⟨S128, .f32⟩
  | 38 => ⟨S128, .i1⟩
  | 39 => ⟨S_, .f32⟩
  | 40 => ⟨S20000x128, .f32⟩
  | 41 => ⟨S20000x128, .i1⟩
  | 42 => ⟨S1x128, .i1⟩
  | 43 => ⟨S20000x128, .i1⟩
  | 44 => ⟨S20000x128, .i1⟩
  | 45 => ⟨S_, .f32⟩
  | 46 => ⟨S_, .f32⟩
  | 47 => ⟨S20000x128, .f32⟩
  | 48 => ⟨S20000x128, .f32⟩
  | 49 => ⟨S20000, .f32⟩
  | 50 => ⟨S20000x1, .f32⟩
  | 51 => ⟨S_, .f32⟩
  | 52 => ⟨S20000, .f32⟩
  | 53 => ⟨S20000, .f32⟩
  | 54 => ⟨S20000x1, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S20000x128, .f32⟩
  | 61 => ⟨S20000x128, .f32⟩
  | 62 => ⟨S_, .f32⟩
  | 63 => ⟨S_, .f32⟩
  | 64 => ⟨S20000x128, .f32⟩
  | 65 => ⟨S20000x128, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S20000, .f32⟩
  | 73 => ⟨S20000, .f32⟩
  | 74 => ⟨S20000, .f32⟩
  | 75 => ⟨S20000x1, .f32⟩
  | 76 => ⟨S_, .f32⟩
  | 77 => ⟨S20000x128, .f32⟩
  | 78 => ⟨S20000x128, .f32⟩
  | 79 => ⟨S20000x1, .f32⟩
  | 80 => ⟨S20000x128, .f32⟩
  | 81 => ⟨S20000x128, .f32⟩
  | 82 => ⟨S_, .f32⟩
  | 83 => ⟨S20000x128, .f32⟩
  | 84 => ⟨S20000x128, .f32⟩
  | 85 => ⟨S20000x128, .f32⟩
  | 86 => ⟨S20000x128, .f32⟩
  | 87 => ⟨S_, .f32⟩
  | 88 => ⟨S_, .f32⟩
  | 89 => ⟨S20000x128, .f32⟩
  | 90 => ⟨S20000x128, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | _ => ⟨S20000x80, .f32⟩

abbrev hbmTy (i : Nat) : BufTy := match i / 128 with
  | 0 => hbmTy0_0 i
  | 1 => hbmTy0_1 i
  | _ => ⟨S20000x80, .f32⟩

abbrev bufTy : (tb : Table) → Fin (tcTables nBuf tb) → BufTy
  | .hbm, ⟨i, _⟩ => hbmTy i
  | _, _ => ⟨S20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v10 : Ref sig .tc := ⟨.hbm, 48, rfl⟩
abbrev main_v11 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v12 : Ref sig .tc := ⟨.hbm, 72, rfl⟩
abbrev main_v13 : Ref sig .tc := ⟨.hbm, 73, rfl⟩
abbrev main_c : Ref sig .tc := ⟨.hbm, 74, rfl⟩
abbrev main_v14 : Ref sig .tc := ⟨.hbm, 75, rfl⟩
abbrev main_cst_4 : Ref sig .tc := ⟨.hbm, 76, rfl⟩
abbrev main_call3_v0 : Ref sig .tc := ⟨.hbm, 77, rfl⟩
abbrev main_call3_v1 : Ref sig .tc := ⟨.hbm, 78, rfl⟩
abbrev main_v15 : Ref sig .tc := ⟨.hbm, 79, rfl⟩
abbrev main_cst_5 : Ref sig .tc := ⟨.hbm, 80, rfl⟩
abbrev main_v16 : Ref sig .tc := ⟨.hbm, 81, rfl⟩
abbrev main_cst_6 : Ref sig .tc := ⟨.hbm, 82, rfl⟩
abbrev main_call4_v0 : Ref sig .tc := ⟨.hbm, 83, rfl⟩
abbrev main_call4_v1 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_call5_v0 : Ref sig .tc := ⟨.hbm, 91, rfl⟩
abbrev main_call5_v1 : Ref sig .tc := ⟨.hbm, 92, rfl⟩
abbrev main_v22 : Ref sig .tc := ⟨.hbm, 93, rfl⟩
abbrev main_cst_8 : Ref sig .tc := ⟨.hbm, 94, rfl⟩
abbrev main_v23 : Ref sig .tc := ⟨.hbm, 95, rfl⟩
abbrev main_cst_9 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_cst_10 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_cst_11 : Ref sig .tc := ⟨.hbm, 108, rfl⟩
abbrev main_call6_v0 : Ref sig .tc := ⟨.hbm, 109, rfl⟩
abbrev main_call6_v1 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_cst_13 : Ref sig .tc := ⟨.hbm, 114, rfl⟩
abbrev main_v36 : Ref sig .tc := ⟨.hbm, 115, rfl⟩
abbrev main_v37 : Ref sig .tc := ⟨.hbm, 116, rfl⟩
abbrev main_cst_14 : Ref sig .tc := ⟨.hbm, 117, rfl⟩
abbrev main_v38 : Ref sig .tc := ⟨.hbm, 118, rfl⟩
abbrev main_cst_15 : Ref sig .tc := ⟨.hbm, 119, rfl⟩
abbrev main_cst_16 : Ref sig .tc := ⟨.hbm, 120, rfl⟩
abbrev main_call7_v0 : Ref sig .tc := ⟨.hbm, 121, rfl⟩
abbrev main_call7_v1 : Ref sig .tc := ⟨.hbm, 122, rfl⟩
abbrev main_v39 : Ref sig .tc := ⟨.hbm, 123, rfl⟩
abbrev main_c_17 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_cst_18 : Ref sig .tc := ⟨.hbm, 128, rfl⟩
abbrev main_v43 : Ref sig .tc := ⟨.hbm, 129, rfl⟩
abbrev main_v44 : Ref sig .tc := ⟨.hbm, 130, rfl⟩
abbrev main_cst_19 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_cst_20 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_cst_21 : Ref sig .tc := ⟨.hbm, 140, rfl⟩
abbrev main_call8_v0 : Ref sig .tc := ⟨.hbm, 141, rfl⟩
abbrev main_call8_v1 : Ref sig .tc := ⟨.hbm, 142, rfl⟩
abbrev main_v52 : Ref sig .tc := ⟨.hbm, 143, rfl⟩
abbrev main_cst_22 : Ref sig .tc := ⟨.hbm, 144, rfl⟩
abbrev main_v53 : Ref sig .tc := ⟨.hbm, 145, rfl⟩
abbrev main_cst_23 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_cst_24 : Ref sig .tc := ⟨.hbm, 150, rfl⟩
abbrev main_v57 : Ref sig .tc := ⟨.hbm, 151, rfl⟩
abbrev main_v58 : Ref sig .tc := ⟨.hbm, 152, rfl⟩
abbrev main_cst_25 : Ref sig .tc := ⟨.hbm, 153, rfl⟩
abbrev main_cst_26 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_v59 : Ref sig .tc := ⟨.hbm, 160, rfl⟩
abbrev main_v60 : Ref sig .tc := ⟨.hbm, 161, rfl⟩
abbrev main_cst_27 : Ref sig .tc := ⟨.hbm, 162, rfl⟩
abbrev main_v61 : Ref sig .tc := ⟨.hbm, 163, rfl⟩
abbrev main_cst_28 : Ref sig .tc := ⟨.hbm, 164, rfl⟩
abbrev main_v62 : Ref sig .tc := ⟨.hbm, 165, rfl⟩
abbrev main_v63 : Ref sig .tc := ⟨.hbm, 166, rfl⟩
abbrev main_cst_29 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_cst_30 : Ref sig .tc := ⟨.hbm, 173, rfl⟩
abbrev main_call11_v0 : Ref sig .tc := ⟨.hbm, 174, rfl⟩
abbrev main_call11_v1 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_cst_31 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_cst_32 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_cst_33 : Ref sig .tc := ⟨.hbm, 190, rfl⟩
abbrev main_call12_v0 : Ref sig .tc := ⟨.hbm, 191, rfl⟩
abbrev main_call12_v1 : Ref sig .tc := ⟨.hbm, 192, rfl⟩
abbrev main_v81 : Ref sig .tc := ⟨.hbm, 193, rfl⟩
abbrev main_cst_34 : Ref sig .tc := ⟨.hbm, 194, rfl⟩
abbrev main_v82 : Ref sig .tc := ⟨.hbm, 195, rfl⟩
abbrev main_v83 : Ref sig .tc := ⟨.hbm, 196, rfl⟩
abbrev main_cst_35 : Ref sig .tc := ⟨.hbm, 197, rfl⟩
abbrev main_v84 : Ref sig .tc := ⟨.hbm, 198, rfl⟩
abbrev main_cst_36 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_cst_37 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_cst_38 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_cst_39 : Ref sig .tc := ⟨.hbm, 215, rfl⟩
abbrev main_call13_v0 : Ref sig .tc := ⟨.hbm, 216, rfl⟩
abbrev main_call13_v1 : Ref sig .tc := ⟨.hbm, 217, rfl⟩
abbrev main_v98 : Ref sig .tc := ⟨.hbm, 218, rfl⟩
abbrev main_cst_40 : Ref sig .tc := ⟨.hbm, 219, rfl⟩
abbrev main_v99 : Ref sig .tc := ⟨.hbm, 220, rfl⟩
abbrev main_v100 : Ref sig .tc := ⟨.hbm, 221, rfl⟩
abbrev main_cst_41 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩

abbrev nD : Nat := 1
abbrev τ : Topo := Topo.v7x

variable {F : FTy → Type} [FloatOps F]
-- ==== Proof.Body.lean ====
/-
  One grid point of the kernel, run once for every kind of point: the scratch buffers' contents after the point as a
  function of the five input blocks and of the contents before it.
-/
module

public import proofs.«01_k».proof.Proof.Gen.KernelIdeal.Frame
public import proofs.«01_k».proof.Proof.Gen.KernelIdeal.Skeleton
public import Idealize.ShloMosaic.Lib.VecWindow
public import Idealize.ShloMosaic.Lib.Claim

@[expose] public section

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of the nine scratch buffers: the log weights, the positive weights, the two per-anchor losses, the
    per-box maxima of the alignment and of the positive weights, and the four accumulators. -/
structure St (F : FTy → Type) [FloatOps F] [Named F] where
  la : Vec F S20000x128 .f32
  pw : Vec F S20000x128 .f32
  ab : Vec F S20000x2 .f32
  conf : Vec F S1x128 .f32
  cmax : Vec F S1x128 .f32
  negs : Vec F S1x80 .f32
  cor : Vec F S1x1 .f32
  acca : Vec F S2x128 .f32
  accb : Vec F S2x128 .f32

/-- The accumulators cleared, which the first point does before anything else. -/
def stepZ (st : St F) : St F :=
  { st with conf := k0_pay1, cmax := k0_pay2, negs := k0_pay3, cor := k0_pay4, acca := k0_pay5, accb := k0_pay6 }

/-- A point of the first pass, on rows `o` to `o + 1000`. -/
def stepA (oh : Vec F S80x128 .f32) (lg sc : Vec F S1000x80 .f32) (ib : Vec F S1000x128 .i32) (o : ℕ) (st : St F) : St F :=
  { st with
    negs := k0_pay18 lg st.negs
    cor := k0_pay25 (k0_pay13 (F := F)) (k0_pay21 (F := F) ib) (k0_pay22 (F := F) lg) st.cor
    ab := VecWindow.put (VecWindow.put st.ab ![o, 0] S1000x1.size (k0_pay26 (k0_pay15 lg) (k0_pay23 lg) (k0_pay24 lg)))
            ![o, 1] S1000x1.size (k0_pay27 (k0_pay22 (F := F) lg))
    conf := k0_pay29 (k0_pay19 (F := F) ib) sc oh st.conf
    la := VecWindow.put st.la ![o, 0] S1000x128.size (k0_pay7 (k0_pay20 (F := F) ib) (k0_pay28 (k0_pay19 (F := F) ib) sc oh)) }

theorem inbR (o : ℕ) (ho : o ≤ 19000) : ∀ a, (![o, 0] : Fin 2 → ℕ) a + S1000x128.size a ≤ S20000x128.size a := by
  intro a; fin_cases a
  · show o + 1000 ≤ 20000; omega
  · show 0 + 128 ≤ 128; omega
theorem inbR2 (o : ℕ) (ho : o ≤ 19000) : ∀ a, (![o, 0] : Fin 2 → ℕ) a + S1000x2.size a ≤ S20000x2.size a := by
  intro a; fin_cases a
  · show o + 1000 ≤ 20000; omega
  · show 0 + 2 ≤ 2; omega

/-- A thousand rows of a tall buffer, from row `o` on. -/
abbrev rows (x : Vec F S20000x128 .f32) (o : ℕ) (ho : o ≤ 19000) : Vec F S1000x128 .f32 :=
  VecWindow.window x ![o, 0] S1000x128.size (inbR o ho)
abbrev rows2 (x : Vec F S20000x2 .f32) (o : ℕ) (ho : o ≤ 19000) : Vec F S1000x2 .f32 :=
  VecWindow.window x ![o, 0] S1000x2.size (inbR2 o ho)

/-- A point of the second pass. -/
def stepB (oh : Vec F S80x128 .f32) (gi : Vec F S1000x80 .f32) (o : ℕ) (ho : o ≤ 19000) (st : St F) : St F :=
  { st with
    pw := VecWindow.put st.pw ![o, 0] S1000x128.size (k0_pay9 gi oh (rows st.la o ho) st.conf)
    cmax := k0_pay10 gi oh (rows st.la o ho) st.conf st.cmax }

/-- A point of the third pass. -/
def stepC (o : ℕ) (ho : o ≤ 19000) (st : St F) : St F :=
  { st with
    acca := k0_pay33 (rows st.pw o ho) st.cmax (rows2 st.ab o ho) st.acca
    accb := k0_pay11 (k0_pay32 (rows st.pw o ho) st.cmax) (rows2 st.ab o ho) st.accb (constant S2x128 .f32 0x00000000#32) }

/-- What the last point writes out. -/
def outD (st : St F) : Vec F S8x128 .f32 :=
  k0_pay12 st.negs (VecWindow.window (s := S2x128) st.acca ![0, 0] S1x128.size inb_S2x128_S1x128_0_0)
    (VecWindow.window (s := S2x128) st.accb ![1, 0] S1x128.size inb_S2x128_S1x128_1_0) st.cor

/-- The condition of the point that clears the accumulators. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- A point of the first pass that is not the first. -/
theorem runA (c : Dev nD) (i : grid0.Coords) (o : ℕ) (ho : o ≤ 19000) (h1 : ¬ cond1 i = 1#1) (h2 : k0_cond2 i = 1#1) (h3 : ¬ k0_cond3 i = 1#1) (h4 : ¬ k0_cond4 i = 1#1) (h5 : ¬ k0_cond5 i = 1#1) (ho1 : k0_off1 i = ![o, 0]) (ho2 : k0_off2 i = ![o, 1]) (ho3 : k0_off3 i = ![o, 0])
    (arg2 : Memref sig .tc .vmem S80x128 .f32) (harg2 : arg2.IsWhole) (arg3 : Memref sig .tc .vmem S1000x80 .f32) (harg3 : arg3.IsWhole) (arg4 : Memref sig .tc .vmem S1000x80 .f32) (harg4 : arg4.IsWhole) (arg5 : Memref sig .tc .vmem S1000x128 .i32) (harg5 : arg5.IsWhole) (arg6 : Memref sig .tc .vmem S1000x80 .f32) (harg6 : arg6.IsWhole) (arg7 : Memref sig .tc .vmem S8x128 .f32) (harg7 : arg7.IsWhole) (arg8 : Memref sig .tc .vmem S20000x128 .f32) (harg8 : arg8.IsWhole) (arg9 : Memref sig .tc .vmem S20000x128 .f32) (harg9 : arg9.IsWhole) (arg10 : Memref sig .tc .vmem S20000x2 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x80 .f32) (harg13 : arg13.IsWhole) (arg14 : Memref sig .tc .vmem S1x1 .f32) (harg14 : arg14.IsWhole) (arg15 : Memref sig .tc .vmem S2x128 .f32) (harg15 : arg15.IsWhole) (arg16 : Memref sig .tc .vmem S2x128 .f32) (harg16 : arg16.IsWhole)
    (oh : Vec F S80x128 .f32) (lg sc : Vec F S1000x80 .f32) (ib : Vec F S1000x128 .i32) (gi : Vec F S1000x80 .f32) (x7 : Vec F S8x128 .f32) (st : St F) (K : PUnit → sProp 𝕄) :
    iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare st.la ∗ owns (c : Thread nD τ) arg9 fullShare st.pw ∗ owns (c : Thread nD τ) arg10 fullShare st.ab ∗ owns (c : Thread nD τ) arg11 fullShare st.conf ∗ owns (c : Thread nD τ) arg12 fullShare st.cmax ∗ owns (c : Thread nD τ) arg13 fullShare st.negs ∗ owns (c : Thread nD τ) arg14 fullShare st.cor ∗ owns (c : Thread nD τ) arg15 fullShare st.acca ∗ owns (c : Thread nD τ) arg16 fullShare st.accb
        ∗ (iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare (stepA oh lg sc ib o st).la ∗ owns (c : Thread nD τ) arg9 fullShare (stepA oh lg sc ib o st).pw ∗ owns (c : Thread nD τ) arg10 fullShare (stepA oh lg sc ib o st).ab ∗ owns (c : Thread nD τ) arg11 fullShare (stepA oh lg sc ib o st).conf ∗ owns (c : Thread nD τ) arg12 fullShare (stepA oh lg sc ib o st).cmax ∗ owns (c : Thread nD τ) arg13 fullShare (stepA oh lg sc ib o st).negs ∗ owns (c : Thread nD τ) arg14 fullShare (stepA oh lg sc ib o st).cor ∗ owns (c : Thread nD τ) arg15 fullShare (stepA oh lg sc ib o st).acca ∗ owns (c : Thread nD τ) arg16 fullShare (stepA oh lg sc ib o st).accb) -∗ K ⟨⟩))
      ⊢ wp frame (wpE (defs₀ (F := F)) Variants.none c none) Set.univ (cc0__mask_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mask_loss_kernel_eq_skeleton]; unfold cc0__mask_loss_kernel_skel
  obtain ⟨la, pw, ab, conf, cmax, negs, cor, acca, accb⟩ := st
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_exec
  sl_step
  iapply Hk
  isplitl [H2]
  · iexists _; isplitr; swap; · iexact H2
    ipureintro
    subst_vars; rfl
  isplitl [H3]
  · iexists _; isplitr; swap; · iexact H3
    ipureintro
    subst_vars; rfl
  isplitl [H4]
  · iexists _; isplitr; swap; · iexact H4
    ipureintro
    subst_vars; rfl
  isplitl [H5]
  · iexists _; isplitr; swap; · iexact H5
    ipureintro
    subst_vars; rfl
  isplitl [H6]
  · iexists _; isplitr; swap; · iexact H6
    ipureintro
    subst_vars; rfl
  isplitl [H7]
  · iexists _; isplitr; swap; · iexact H7
    ipureintro
    subst_vars; rfl
  isplitl [H8]
  · iexists _; isplitr; swap; · iexact H8
    ipureintro
    subst_vars; dsimp only [stepA]; refine (View.read_writes_cons_put _ _ _ _ _ ho3).trans ?_; rw [← View.readAt_full arg2.view f2 inb_S80x128_S80x128_0_0, ← View.readAt_full arg4.view f4 inb_S1000x80_S1000x80_0_0, ← View.readAt_full arg5.view f5 inb_S1000x128_S1000x128_0_0]; try rfl
  isplitl [H9]
  · iexists _; isplitr; swap; · iexact H9
    ipureintro
    subst_vars; rfl
  isplitl [H10]
  · iexists _; isplitr; swap; · iexact H10
    ipureintro
    subst_vars; dsimp only [stepA]; refine (View.read_writes_cons_put _ _ _ _ _ ho2).trans ?_; refine (congrArg (fun z => VecWindow.put z _ _ _) (View.read_writes_cons_put _ _ _ _ _ ho1)).trans ?_; rw [← View.readAt_full arg3.view f3 inb_S1000x80_S1000x80_0_0]; try rfl
  isplitl [H11]
  · iexists _; isplitr; swap; · iexact H11
    ipureintro
    subst_vars; dsimp only [stepA]; refine (View.read_writes_full _ _ _ _ _).trans ?_; rw [← View.readAt_full arg2.view f2 inb_S80x128_S80x128_0_0, ← View.readAt_full arg4.view f4 inb_S1000x80_S1000x80_0_0, ← View.readAt_full arg5.view f5 inb_S1000x128_S1000x128_0_0, ← View.readAt_full arg11.view f11 inb_S1x128_S1x128_0_0]; try rfl
  isplitl [H12]
  · iexists _; isplitr; swap; · iexact H12
    ipureintro
    subst_vars; rfl
  isplitl [H13]
  · iexists _; isplitr; swap; · iexact H13
    ipureintro
    subst_vars; dsimp only [stepA]; refine (View.read_writes_full _ _ _ _ _).trans ?_; rw [← View.readAt_full arg3.view f3 inb_S1000x80_S1000x80_0_0, ← View.readAt_full arg13.view f13 inb_S1x80_S1x80_0_0]; try rfl
  isplitl [H14]
  · iexists _; isplitr; swap; · iexact H14
    ipureintro
    subst_vars; dsimp only [stepA]; refine (View.read_writes_full _ _ _ _ _).trans ?_; rw [← View.readAt_full arg3.view f3 inb_S1000x80_S1000x80_0_0, ← View.readAt_full arg5.view f5 inb_S1000x128_S1000x128_0_0, ← View.readAt_full arg14.view f14 inb_S1x1_S1x1_0_0]; try rfl
  isplitl [H15]
  · iexists _; isplitr; swap; · iexact H15
    ipureintro
    subst_vars; rfl
  iexists _; isplitr; swap; · iexact H16
  ipureintro
  subst_vars; rfl

/-- The first point. -/
theorem runZ (c : Dev nD) (i : grid0.Coords) (o : ℕ) (ho : o ≤ 19000) (h1 : cond1 i = 1#1) (h2 : k0_cond2 i = 1#1) (h3 : ¬ k0_cond3 i = 1#1) (h4 : ¬ k0_cond4 i = 1#1) (h5 : ¬ k0_cond5 i = 1#1) (ho1 : k0_off1 i = ![o, 0]) (ho2 : k0_off2 i = ![o, 1]) (ho3 : k0_off3 i = ![o, 0])
    (arg2 : Memref sig .tc .vmem S80x128 .f32) (harg2 : arg2.IsWhole) (arg3 : Memref sig .tc .vmem S1000x80 .f32) (harg3 : arg3.IsWhole) (arg4 : Memref sig .tc .vmem S1000x80 .f32) (harg4 : arg4.IsWhole) (arg5 : Memref sig .tc .vmem S1000x128 .i32) (harg5 : arg5.IsWhole) (arg6 : Memref sig .tc .vmem S1000x80 .f32) (harg6 : arg6.IsWhole) (arg7 : Memref sig .tc .vmem S8x128 .f32) (harg7 : arg7.IsWhole) (arg8 : Memref sig .tc .vmem S20000x128 .f32) (harg8 : arg8.IsWhole) (arg9 : Memref sig .tc .vmem S20000x128 .f32) (harg9 : arg9.IsWhole) (arg10 : Memref sig .tc .vmem S20000x2 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x80 .f32) (harg13 : arg13.IsWhole) (arg14 : Memref sig .tc .vmem S1x1 .f32) (harg14 : arg14.IsWhole) (arg15 : Memref sig .tc .vmem S2x128 .f32) (harg15 : arg15.IsWhole) (arg16 : Memref sig .tc .vmem S2x128 .f32) (harg16 : arg16.IsWhole)
    (oh : Vec F S80x128 .f32) (lg sc : Vec F S1000x80 .f32) (ib : Vec F S1000x128 .i32) (gi : Vec F S1000x80 .f32) (x7 : Vec F S8x128 .f32) (st : St F) (K : PUnit → sProp 𝕄) :
    iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare st.la ∗ owns (c : Thread nD τ) arg9 fullShare st.pw ∗ owns (c : Thread nD τ) arg10 fullShare st.ab ∗ owns (c : Thread nD τ) arg11 fullShare st.conf ∗ owns (c : Thread nD τ) arg12 fullShare st.cmax ∗ owns (c : Thread nD τ) arg13 fullShare st.negs ∗ owns (c : Thread nD τ) arg14 fullShare st.cor ∗ owns (c : Thread nD τ) arg15 fullShare st.acca ∗ owns (c : Thread nD τ) arg16 fullShare st.accb
        ∗ (iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare (stepA oh lg sc ib o (stepZ st)).la ∗ owns (c : Thread nD τ) arg9 fullShare (stepA oh lg sc ib o (stepZ st)).pw ∗ owns (c : Thread nD τ) arg10 fullShare (stepA oh lg sc ib o (stepZ st)).ab ∗ owns (c : Thread nD τ) arg11 fullShare (stepA oh lg sc ib o (stepZ st)).conf ∗ owns (c : Thread nD τ) arg12 fullShare (stepA oh lg sc ib o (stepZ st)).cmax ∗ owns (c : Thread nD τ) arg13 fullShare (stepA oh lg sc ib o (stepZ st)).negs ∗ owns (c : Thread nD τ) arg14 fullShare (stepA oh lg sc ib o (stepZ st)).cor ∗ owns (c : Thread nD τ) arg15 fullShare (stepA oh lg sc ib o (stepZ st)).acca ∗ owns (c : Thread nD τ) arg16 fullShare (stepA oh lg sc ib o (stepZ st)).accb) -∗ K ⟨⟩))
      ⊢ wp frame (wpE (defs₀ (F := F)) Variants.none c none) Set.univ (cc0__mask_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mask_loss_kernel_eq_skeleton]; unfold cc0__mask_loss_kernel_skel
  obtain ⟨la, pw, ab, conf, cmax, negs, cor, acca, accb⟩ := st
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_exec
  sl_step
  iapply Hk
  isplitl [H2]
  · iexists _; isplitr; swap; · iexact H2
    ipureintro
    subst_vars; rfl
  isplitl [H3]
  · iexists _; isplitr; swap; · iexact H3
    ipureintro
    subst_vars; rfl
  isplitl [H4]
  · iexists _; isplitr; swap; · iexact H4
    ipureintro
    subst_vars; rfl
  isplitl [H5]
  · iexists _; isplitr; swap; · iexact H5
    ipureintro
    subst_vars; rfl
  isplitl [H6]
  · iexists _; isplitr; swap; · iexact H6
    ipureintro
    subst_vars; rfl
  isplitl [H7]
  · iexists _; isplitr; swap; · iexact H7
    ipureintro
    subst_vars; rfl
  isplitl [H8]
  · iexists _; isplitr; swap; · iexact H8
    ipureintro
    subst_vars; dsimp only [stepA, stepZ]; refine (View.read_writes_cons_put _ _ _ _ _ ho3).trans ?_; rw [← View.readAt_full arg2.view f2 inb_S80x128_S80x128_0_0, ← View.readAt_full arg4.view f4 inb_S1000x80_S1000x80_0_0, ← View.readAt_full arg5.view f5 inb_S1000x128_S1000x128_0_0]; try rfl
  isplitl [H9]
  · iexists _; isplitr; swap; · iexact H9
    ipureintro
    subst_vars; rfl
  isplitl [H10]
  · iexists _; isplitr; swap; · iexact H10
    ipureintro
    subst_vars; dsimp only [stepA, stepZ]; refine (View.read_writes_cons_put _ _ _ _ _ ho2).trans ?_; refine (congrArg (fun z => VecWindow.put z _ _ _) (View.read_writes_cons_put _ _ _ _ _ ho1)).trans ?_; rw [← View.readAt_full arg3.view f3 inb_S1000x80_S1000x80_0_0]; try rfl
  isplitl [H11]
  · iexists _; isplitr; swap; · iexact H11
    ipureintro
    subst_vars; dsimp only [stepA, stepZ]; refine (View.read_writes_full _ _ _ _ _).trans ?_; rw [← View.readAt_full arg2.view f2 inb_S80x128_S80x128_0_0, ← View.readAt_full arg4.view f4 inb_S1000x80_S1000x80_0_0, ← View.readAt_full arg5.view f5 inb_S1000x128_S1000x128_0_0]; exact congrArg (k0_pay29 _ _ _) (View.readCov_full _ _ _ _ _)
  isplitl [H12]
  · iexists _; isplitr; swap; · iexact H12
    ipureintro
    subst_vars; exact View.read_writes_full _ _ _ _ _
  isplitl [H13]
  · iexists _; isplitr; swap; · iexact H13
    ipureintro
    subst_vars; dsimp only [stepA, stepZ]; refine (View.read_writes_full _ _ _ _ _).trans ?_; rw [← View.readAt_full arg3.view f3 inb_S1000x80_S1000x80_0_0]; exact congrArg (k0_pay18 _) (View.readCov_full _ _ _ _ _)
  isplitl [H14]
  · iexists _; isplitr; swap; · iexact H14
    ipureintro
    subst_vars; dsimp only [stepA, stepZ]; refine (View.read_writes_full _ _ _ _ _).trans ?_; rw [← View.readAt_full arg3.view f3 inb_S1000x80_S1000x80_0_0, ← View.readAt_full arg5.view f5 inb_S1000x128_S1000x128_0_0]; exact congrArg (k0_pay25 _ _ _) (View.readCov_full _ _ _ _ _)
  isplitl [H15]
  · iexists _; isplitr; swap; · iexact H15
    ipureintro
    subst_vars; exact View.read_writes_full _ _ _ _ _
  iexists _; isplitr; swap; · iexact H16
  ipureintro
  subst_vars; exact View.read_writes_full _ _ _ _ _

/-- A point of the second pass. -/
theorem runB (c : Dev nD) (i : grid0.Coords) (o : ℕ) (ho : o ≤ 19000) (h1 : ¬ cond1 i = 1#1) (h2 : ¬ k0_cond2 i = 1#1) (h3 : k0_cond3 i = 1#1) (h4 : ¬ k0_cond4 i = 1#1) (h5 : ¬ k0_cond5 i = 1#1) (ho4 : k0_off4 i = ![o, 0])
    (arg2 : Memref sig .tc .vmem S80x128 .f32) (harg2 : arg2.IsWhole) (arg3 : Memref sig .tc .vmem S1000x80 .f32) (harg3 : arg3.IsWhole) (arg4 : Memref sig .tc .vmem S1000x80 .f32) (harg4 : arg4.IsWhole) (arg5 : Memref sig .tc .vmem S1000x128 .i32) (harg5 : arg5.IsWhole) (arg6 : Memref sig .tc .vmem S1000x80 .f32) (harg6 : arg6.IsWhole) (arg7 : Memref sig .tc .vmem S8x128 .f32) (harg7 : arg7.IsWhole) (arg8 : Memref sig .tc .vmem S20000x128 .f32) (harg8 : arg8.IsWhole) (arg9 : Memref sig .tc .vmem S20000x128 .f32) (harg9 : arg9.IsWhole) (arg10 : Memref sig .tc .vmem S20000x2 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x80 .f32) (harg13 : arg13.IsWhole) (arg14 : Memref sig .tc .vmem S1x1 .f32) (harg14 : arg14.IsWhole) (arg15 : Memref sig .tc .vmem S2x128 .f32) (harg15 : arg15.IsWhole) (arg16 : Memref sig .tc .vmem S2x128 .f32) (harg16 : arg16.IsWhole)
    (oh : Vec F S80x128 .f32) (lg sc : Vec F S1000x80 .f32) (ib : Vec F S1000x128 .i32) (gi : Vec F S1000x80 .f32) (x7 : Vec F S8x128 .f32) (st : St F) (K : PUnit → sProp 𝕄) :
    iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare st.la ∗ owns (c : Thread nD τ) arg9 fullShare st.pw ∗ owns (c : Thread nD τ) arg10 fullShare st.ab ∗ owns (c : Thread nD τ) arg11 fullShare st.conf ∗ owns (c : Thread nD τ) arg12 fullShare st.cmax ∗ owns (c : Thread nD τ) arg13 fullShare st.negs ∗ owns (c : Thread nD τ) arg14 fullShare st.cor ∗ owns (c : Thread nD τ) arg15 fullShare st.acca ∗ owns (c : Thread nD τ) arg16 fullShare st.accb
        ∗ (iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare (stepB oh gi o ho st).la ∗ owns (c : Thread nD τ) arg9 fullShare (stepB oh gi o ho st).pw ∗ owns (c : Thread nD τ) arg10 fullShare (stepB oh gi o ho st).ab ∗ owns (c : Thread nD τ) arg11 fullShare (stepB oh gi o ho st).conf ∗ owns (c : Thread nD τ) arg12 fullShare (stepB oh gi o ho st).cmax ∗ owns (c : Thread nD τ) arg13 fullShare (stepB oh gi o ho st).negs ∗ owns (c : Thread nD τ) arg14 fullShare (stepB oh gi o ho st).cor ∗ owns (c : Thread nD τ) arg15 fullShare (stepB oh gi o ho st).acca ∗ owns (c : Thread nD τ) arg16 fullShare (stepB oh gi o ho st).accb) -∗ K ⟨⟩))
      ⊢ wp frame (wpE (defs₀ (F := F)) Variants.none c none) Set.univ (cc0__mask_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mask_loss_kernel_eq_skeleton]; unfold cc0__mask_loss_kernel_skel
  obtain ⟨la, pw, ab, conf, cmax, negs, cor, acca, accb⟩ := st
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_exec
  sl_step
  iapply Hk
  isplitl [H2]
  · iexists _; isplitr; swap; · iexact H2
    ipureintro
    subst_vars; rfl
  isplitl [H3]
  · iexists _; isplitr; swap; · iexact H3
    ipureintro
    subst_vars; rfl
  isplitl [H4]
  · iexists _; isplitr; swap; · iexact H4
    ipureintro
    subst_vars; rfl
  isplitl [H5]
  · iexists _; isplitr; swap; · iexact H5
    ipureintro
    subst_vars; rfl
  isplitl [H6]
  · iexists _; isplitr; swap; · iexact H6
    ipureintro
    subst_vars; rfl
  isplitl [H7]
  · iexists _; isplitr; swap; · iexact H7
    ipureintro
    subst_vars; rfl
  isplitl [H8]
  · iexists _; isplitr; swap; · iexact H8
    ipureintro
    subst_vars; rfl
  isplitl [H9]
  · iexists _; isplitr; swap; · iexact H9
    ipureintro
    subst_vars; have e8 : _ = rows (arg8.view.read (Elt F) f8) o ho := View.readAt_unit (s := S20000x128) (Val := Elt F) arg8.view f8 (k0_off4_inb i h3) ho4 (inbR o ho); dsimp only [stepB]; refine (View.read_writes_cons_put _ _ _ _ _ ho4).trans ?_; rw [← e8]; rw [← View.readAt_full arg2.view f2 inb_S80x128_S80x128_0_0, ← View.readAt_full arg6.view f6 inb_S1000x80_S1000x80_0_0, ← View.readAt_full arg11.view f11 inb_S1x128_S1x128_0_0]; try rfl
  isplitl [H10]
  · iexists _; isplitr; swap; · iexact H10
    ipureintro
    subst_vars; rfl
  isplitl [H11]
  · iexists _; isplitr; swap; · iexact H11
    ipureintro
    subst_vars; rfl
  isplitl [H12]
  · iexists _; isplitr; swap; · iexact H12
    ipureintro
    subst_vars; have e8 : _ = rows (arg8.view.read (Elt F) f8) o ho := View.readAt_unit (s := S20000x128) (Val := Elt F) arg8.view f8 (k0_off4_inb i h3) ho4 (inbR o ho); dsimp only [stepB]; refine (View.read_writes_full _ _ _ _ _).trans ?_; rw [← e8]; rw [← View.readAt_full arg2.view f2 inb_S80x128_S80x128_0_0, ← View.readAt_full arg6.view f6 inb_S1000x80_S1000x80_0_0, ← View.readAt_full arg11.view f11 inb_S1x128_S1x128_0_0, ← View.readAt_full arg12.view f12 inb_S1x128_S1x128_0_0]
  isplitl [H13]
  · iexists _; isplitr; swap; · iexact H13
    ipureintro
    subst_vars; rfl
  isplitl [H14]
  · iexists _; isplitr; swap; · iexact H14
    ipureintro
    subst_vars; rfl
  isplitl [H15]
  · iexists _; isplitr; swap; · iexact H15
    ipureintro
    subst_vars; rfl
  iexists _; isplitr; swap; · iexact H16
  ipureintro
  subst_vars; rfl

/-- A point of the third pass that is not the last. -/
theorem runC (c : Dev nD) (i : grid0.Coords) (o : ℕ) (ho : o ≤ 19000) (h1 : ¬ cond1 i = 1#1) (h2 : ¬ k0_cond2 i = 1#1) (h3 : ¬ k0_cond3 i = 1#1) (h4 : k0_cond4 i = 1#1) (h5 : ¬ k0_cond5 i = 1#1) (ho5 : k0_off5 i = ![o, 0]) (ho6 : k0_off6 i = ![o, 0])
    (arg2 : Memref sig .tc .vmem S80x128 .f32) (harg2 : arg2.IsWhole) (arg3 : Memref sig .tc .vmem S1000x80 .f32) (harg3 : arg3.IsWhole) (arg4 : Memref sig .tc .vmem S1000x80 .f32) (harg4 : arg4.IsWhole) (arg5 : Memref sig .tc .vmem S1000x128 .i32) (harg5 : arg5.IsWhole) (arg6 : Memref sig .tc .vmem S1000x80 .f32) (harg6 : arg6.IsWhole) (arg7 : Memref sig .tc .vmem S8x128 .f32) (harg7 : arg7.IsWhole) (arg8 : Memref sig .tc .vmem S20000x128 .f32) (harg8 : arg8.IsWhole) (arg9 : Memref sig .tc .vmem S20000x128 .f32) (harg9 : arg9.IsWhole) (arg10 : Memref sig .tc .vmem S20000x2 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x80 .f32) (harg13 : arg13.IsWhole) (arg14 : Memref sig .tc .vmem S1x1 .f32) (harg14 : arg14.IsWhole) (arg15 : Memref sig .tc .vmem S2x128 .f32) (harg15 : arg15.IsWhole) (arg16 : Memref sig .tc .vmem S2x128 .f32) (harg16 : arg16.IsWhole)
    (oh : Vec F S80x128 .f32) (lg sc : Vec F S1000x80 .f32) (ib : Vec F S1000x128 .i32) (gi : Vec F S1000x80 .f32) (x7 : Vec F S8x128 .f32) (st : St F) (K : PUnit → sProp 𝕄) :
    iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare st.la ∗ owns (c : Thread nD τ) arg9 fullShare st.pw ∗ owns (c : Thread nD τ) arg10 fullShare st.ab ∗ owns (c : Thread nD τ) arg11 fullShare st.conf ∗ owns (c : Thread nD τ) arg12 fullShare st.cmax ∗ owns (c : Thread nD τ) arg13 fullShare st.negs ∗ owns (c : Thread nD τ) arg14 fullShare st.cor ∗ owns (c : Thread nD τ) arg15 fullShare st.acca ∗ owns (c : Thread nD τ) arg16 fullShare st.accb
        ∗ (iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare (stepC o ho st).la ∗ owns (c : Thread nD τ) arg9 fullShare (stepC o ho st).pw ∗ owns (c : Thread nD τ) arg10 fullShare (stepC o ho st).ab ∗ owns (c : Thread nD τ) arg11 fullShare (stepC o ho st).conf ∗ owns (c : Thread nD τ) arg12 fullShare (stepC o ho st).cmax ∗ owns (c : Thread nD τ) arg13 fullShare (stepC o ho st).negs ∗ owns (c : Thread nD τ) arg14 fullShare (stepC o ho st).cor ∗ owns (c : Thread nD τ) arg15 fullShare (stepC o ho st).acca ∗ owns (c : Thread nD τ) arg16 fullShare (stepC o ho st).accb) -∗ K ⟨⟩))
      ⊢ wp frame (wpE (defs₀ (F := F)) Variants.none c none) Set.univ (cc0__mask_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mask_loss_kernel_eq_skeleton]; unfold cc0__mask_loss_kernel_skel
  obtain ⟨la, pw, ab, conf, cmax, negs, cor, acca, accb⟩ := st
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_exec
  sl_step
  iapply Hk
  isplitl [H2]
  · iexists _; isplitr; swap; · iexact H2
    ipureintro
    subst_vars; rfl
  isplitl [H3]
  · iexists _; isplitr; swap; · iexact H3
    ipureintro
    subst_vars; rfl
  isplitl [H4]
  · iexists _; isplitr; swap; · iexact H4
    ipureintro
    subst_vars; rfl
  isplitl [H5]
  · iexists _; isplitr; swap; · iexact H5
    ipureintro
    subst_vars; rfl
  isplitl [H6]
  · iexists _; isplitr; swap; · iexact H6
    ipureintro
    subst_vars; rfl
  isplitl [H7]
  · iexists _; isplitr; swap; · iexact H7
    ipureintro
    subst_vars; rfl
  isplitl [H8]
  · iexists _; isplitr; swap; · iexact H8
    ipureintro
    subst_vars; rfl
  isplitl [H9]
  · iexists _; isplitr; swap; · iexact H9
    ipureintro
    subst_vars; rfl
  isplitl [H10]
  · iexists _; isplitr; swap; · iexact H10
    ipureintro
    subst_vars; rfl
  isplitl [H11]
  · iexists _; isplitr; swap; · iexact H11
    ipureintro
    subst_vars; rfl
  isplitl [H12]
  · iexists _; isplitr; swap; · iexact H12
    ipureintro
    subst_vars; rfl
  isplitl [H13]
  · iexists _; isplitr; swap; · iexact H13
    ipureintro
    subst_vars; rfl
  isplitl [H14]
  · iexists _; isplitr; swap; · iexact H14
    ipureintro
    subst_vars; rfl
  isplitl [H15]
  · iexists _; isplitr; swap; · iexact H15
    ipureintro
    subst_vars; have e9 : _ = rows (arg9.view.read (Elt F) f9) o ho := View.readAt_unit (s := S20000x128) (Val := Elt F) arg9.view f9 (k0_off5_inb i h4) ho5 (inbR o ho); have e10 : _ = rows2 (arg10.view.read (Elt F) f10) o ho := View.readAt_unit (s := S20000x2) (Val := Elt F) arg10.view f10 (k0_off6_inb i h4) ho6 (inbR2 o ho); simp only [stepC]; refine (View.read_writes_full _ _ _ _ _).trans ?_; rw [← e9, ← e10, ← View.readAt_full arg12.view f12 inb_S1x128_S1x128_0_0, ← View.readAt_full arg15.view f15 inb_S2x128_S2x128_0_0]; try rfl
  iexists _; isplitr; swap; · iexact H16
  ipureintro
  subst_vars; have e9 : _ = rows (arg9.view.read (Elt F) f9) o ho := View.readAt_unit (s := S20000x128) (Val := Elt F) arg9.view f9 (k0_off5_inb i h4) ho5 (inbR o ho); have e10 : _ = rows2 (arg10.view.read (Elt F) f10) o ho := View.readAt_unit (s := S20000x2) (Val := Elt F) arg10.view f10 (k0_off6_inb i h4) ho6 (inbR2 o ho); simp only [stepC]; refine (View.read_writes_full _ _ _ _ _).trans ?_; rw [← e9, ← e10, ← View.readAt_full arg12.view f12 inb_S1x128_S1x128_0_0, ← View.readAt_full arg16.view f16 inb_S2x128_S2x128_0_0]; try rfl

/-- The last point. -/
theorem runD (c : Dev nD) (i : grid0.Coords) (o : ℕ) (ho : o ≤ 19000) (h1 : ¬ cond1 i = 1#1) (h2 : ¬ k0_cond2 i = 1#1) (h3 : ¬ k0_cond3 i = 1#1) (h4 : k0_cond4 i = 1#1) (h5 :  k0_cond5 i = 1#1) (ho5 : k0_off5 i = ![o, 0]) (ho6 : k0_off6 i = ![o, 0])
    (arg2 : Memref sig .tc .vmem S80x128 .f32) (harg2 : arg2.IsWhole) (arg3 : Memref sig .tc .vmem S1000x80 .f32) (harg3 : arg3.IsWhole) (arg4 : Memref sig .tc .vmem S1000x80 .f32) (harg4 : arg4.IsWhole) (arg5 : Memref sig .tc .vmem S1000x128 .i32) (harg5 : arg5.IsWhole) (arg6 : Memref sig .tc .vmem S1000x80 .f32) (harg6 : arg6.IsWhole) (arg7 : Memref sig .tc .vmem S8x128 .f32) (harg7 : arg7.IsWhole) (arg8 : Memref sig .tc .vmem S20000x128 .f32) (harg8 : arg8.IsWhole) (arg9 : Memref sig .tc .vmem S20000x128 .f32) (harg9 : arg9.IsWhole) (arg10 : Memref sig .tc .vmem S20000x2 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x80 .f32) (harg13 : arg13.IsWhole) (arg14 : Memref sig .tc .vmem S1x1 .f32) (harg14 : arg14.IsWhole) (arg15 : Memref sig .tc .vmem S2x128 .f32) (harg15 : arg15.IsWhole) (arg16 : Memref sig .tc .vmem S2x128 .f32) (harg16 : arg16.IsWhole)
    (oh : Vec F S80x128 .f32) (lg sc : Vec F S1000x80 .f32) (ib : Vec F S1000x128 .i32) (gi : Vec F S1000x80 .f32) (x7 : Vec F S8x128 .f32) (st : St F) (K : PUnit → sProp 𝕄) :
    iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare x7 ∗ owns (c : Thread nD τ) arg8 fullShare st.la ∗ owns (c : Thread nD τ) arg9 fullShare st.pw ∗ owns (c : Thread nD τ) arg10 fullShare st.ab ∗ owns (c : Thread nD τ) arg11 fullShare st.conf ∗ owns (c : Thread nD τ) arg12 fullShare st.cmax ∗ owns (c : Thread nD τ) arg13 fullShare st.negs ∗ owns (c : Thread nD τ) arg14 fullShare st.cor ∗ owns (c : Thread nD τ) arg15 fullShare st.acca ∗ owns (c : Thread nD τ) arg16 fullShare st.accb
        ∗ (iprop(owns (c : Thread nD τ) arg2 fullShare oh ∗ owns (c : Thread nD τ) arg3 fullShare lg ∗ owns (c : Thread nD τ) arg4 fullShare sc ∗ owns (c : Thread nD τ) arg5 fullShare ib ∗ owns (c : Thread nD τ) arg6 fullShare gi ∗ owns (c : Thread nD τ) arg7 fullShare (outD (stepC o ho st)) ∗ owns (c : Thread nD τ) arg8 fullShare (stepC o ho st).la ∗ owns (c : Thread nD τ) arg9 fullShare (stepC o ho st).pw ∗ owns (c : Thread nD τ) arg10 fullShare (stepC o ho st).ab ∗ owns (c : Thread nD τ) arg11 fullShare (stepC o ho st).conf ∗ owns (c : Thread nD τ) arg12 fullShare (stepC o ho st).cmax ∗ owns (c : Thread nD τ) arg13 fullShare (stepC o ho st).negs ∗ owns (c : Thread nD τ) arg14 fullShare (stepC o ho st).cor ∗ owns (c : Thread nD τ) arg15 fullShare (stepC o ho st).acca ∗ owns (c : Thread nD τ) arg16 fullShare (stepC o ho st).accb) -∗ K ⟨⟩))
      ⊢ wp frame (wpE (defs₀ (F := F)) Variants.none c none) Set.univ (cc0__mask_loss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mask_loss_kernel_eq_skeleton]; unfold cc0__mask_loss_kernel_skel
  obtain ⟨la, pw, ab, conf, cmax, negs, cor, acca, accb⟩ := st
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  sl_exec
  sl_step
  iapply Hk
  isplitl [H2]
  · iexists _; isplitr; swap; · iexact H2
    ipureintro
    subst_vars; rfl
  isplitl [H3]
  · iexists _; isplitr; swap; · iexact H3
    ipureintro
    subst_vars; rfl
  isplitl [H4]
  · iexists _; isplitr; swap; · iexact H4
    ipureintro
    subst_vars; rfl
  isplitl [H5]
  · iexists _; isplitr; swap; · iexact H5
    ipureintro
    subst_vars; rfl
  isplitl [H6]
  · iexists _; isplitr; swap; · iexact H6
    ipureintro
    subst_vars; rfl
  isplitl [H7]
  · iexists _; isplitr; swap; · iexact H7
    ipureintro
    subst_vars; have e9 : _ = rows (arg9.view.read (Elt F) f9) o ho := View.readAt_unit (s := S20000x128) (Val := Elt F) arg9.view f9 (k0_off5_inb i h4) ho5 (inbR o ho); have e10 : _ = rows2 (arg10.view.read (Elt F) f10) o ho := View.readAt_unit (s := S20000x2) (Val := Elt F) arg10.view f10 (k0_off6_inb i h4) ho6 (inbR2 o ho); dsimp only [outD, stepC]; refine (View.read_writes_full _ _ _ _ _).trans ?_; rw [← e9, ← e10]; rw [← View.readAt_full arg12.view f12 inb_S1x128_S1x128_0_0, ← View.readAt_full arg13.view f13 inb_S1x80_S1x80_0_0, ← View.readAt_full arg14.view f14 inb_S1x1_S1x1_0_0, ← View.readAt_full arg15.view f15 inb_S2x128_S2x128_0_0, ← View.readAt_full arg16.view f16 inb_S2x128_S2x128_0_0]; refine congrArg₂ (fun x y => k0_pay12 _ x y _) ?_ ?_ <;> exact (View.readAt_unit (s := S2x128) _ _ _ rfl _).trans (congrArg (fun z => VecWindow.window (s := S2x128) z _ _ _) (View.read_writes_full _ _ _ _ _))
  isplitl [H8]
  · iexists _; isplitr; swap; · iexact H8
    ipureintro
    subst_vars; rfl
  isplitl [H9]
  · iexists _; isplitr; swap; · iexact H9
    ipureintro
    subst_vars; rfl
  isplitl [H10]
  · iexists _; isplitr; swap; · iexact H10
    ipureintro
    subst_vars; rfl
  isplitl [H11]
  · iexists _; isplitr; swap; · iexact H11
    ipureintro
    subst_vars; rfl
  isplitl [H12]
  · iexists _; isplitr; swap; · iexact H12
    ipureintro
    subst_vars; rfl
  isplitl [H13]
  · iexists _; isplitr; swap; · iexact H13
    ipureintro
    subst_vars; rfl
  isplitl [H14]
  · iexists _; isplitr; swap; · iexact H14
    ipureintro
    subst_vars; rfl
  isplitl [H15]
  · iexists _; isplitr; swap; · iexact H15
    ipureintro
    subst_vars; have e9 : _ = rows (arg9.view.read (Elt F) f9) o ho := View.readAt_unit (s := S20000x128) (Val := Elt F) arg9.view f9 (k0_off5_inb i h4) ho5 (inbR o ho); have e10 : _ = rows2 (arg10.view.read (Elt F) f10) o ho := View.readAt_unit (s := S20000x2) (Val := Elt F) arg10.view f10 (k0_off6_inb i h4) ho6 (inbR2 o ho); simp only [stepC]; refine (View.read_writes_full _ _ _ _ _).trans ?_; rw [← e9, ← e10, ← View.readAt_full arg12.view f12 inb_S1x128_S1x128_0_0, ← View.readAt_full arg15.view f15 inb_S2x128_S2x128_0_0]; try rfl
  iexists _; isplitr; swap; · iexact H16
  ipureintro
  subst_vars; have e9 : _ = rows (arg9.view.read (Elt F) f9) o ho := View.readAt_unit (s := S20000x128) (Val := Elt F) arg9.view f9 (k0_off5_inb i h4) ho5 (inbR o ho); have e10 : _ = rows2 (arg10.view.read (Elt F) f10) o ho := View.readAt_unit (s := S20000x2) (Val := Elt F) arg10.view f10 (k0_off6_inb i h4) ho6 (inbR2 o ho); simp only [stepC]; refine (View.read_writes_full _ _ _ _ _).trans ?_; rw [← e9, ← e10, ← View.readAt_full arg12.view f12 inb_S1x128_S1x128_0_0, ← View.readAt_full arg16.view f16 inb_S2x128_S2x128_0_0]; try rfl

end Cert.Proof.IdealRun

end
-- ==== Proof.Run.lean ====
/-
  The kernel's run: the scratch contents from point to point, and what the output array and the arguments hold at the end.
-/
module

public import proofs.«01_k».proof.Proof.Body
public import Idealize.ShloMosaic.Lib.Pipeline.FrameSuffix

@[expose] public section

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points and their conditions -/

theorem c1_iff : ∀ t : Fin grid0.N, cond1 (grid0.coords t) = 1#1 ↔ t.val = 0 := by decide
theorem c2_iff : ∀ t : Fin grid0.N, k0_cond2 (grid0.coords t) = 1#1 ↔ t.val < 20 := by decide
theorem c3_iff : ∀ t : Fin grid0.N, k0_cond3 (grid0.coords t) = 1#1 ↔ (20 ≤ t.val ∧ t.val < 40) := by decide
theorem c4_iff : ∀ t : Fin grid0.N, k0_cond4 (grid0.coords t) = 1#1 ↔ 40 ≤ t.val := by decide
theorem c5_iff : ∀ t : Fin grid0.N, k0_cond5 (grid0.coords t) = 1#1 ↔ t.val = 59 := by decide
theorem off1_eq : ∀ t : Fin grid0.N, k0_off1 (grid0.coords t) = ![1000 * (t.val % 20), 0] := by decide
theorem off2_eq : ∀ t : Fin grid0.N, k0_off2 (grid0.coords t) = ![1000 * (t.val % 20), 1] := by decide
theorem off3_eq : ∀ t : Fin grid0.N, k0_off3 (grid0.coords t) = ![1000 * (t.val % 20), 0] := by decide
theorem off4_eq : ∀ t : Fin grid0.N, k0_off4 (grid0.coords t) = ![1000 * (t.val % 20), 0] := by decide
theorem off5_eq : ∀ t : Fin grid0.N, k0_off5 (grid0.coords t) = ![1000 * (t.val % 20), 0] := by decide
theorem off6_eq : ∀ t : Fin grid0.N, k0_off6 (grid0.coords t) = ![1000 * (t.val % 20), 0] := by decide
theorem ho (t : ℕ) : 1000 * (t % 20) ≤ 19000 := by omega

/-! ## The scratch contents from point to point -/

/-- One point on given blocks. -/
def step (t : ℕ) (oh : Vec F S80x128 .f32) (lg sc : Vec F S1000x80 .f32) (ib : Vec F S1000x128 .i32) (gi : Vec F S1000x80 .f32) (st : St F) : St F :=
  if t = 0 then stepA oh lg sc ib (1000 * (t % 20)) (stepZ st)
  else if t < 20 then stepA oh lg sc ib (1000 * (t % 20)) st
  else if t < 40 then stepB oh gi (1000 * (t % 20)) (ho t) st
  else stepC (1000 * (t % 20)) (ho t) st

/-- Two scratch contents that agree, before point `n`, on everything a later point still reads: the accumulators once the
    first point is past, and the rows already written. -/
structure Agree (n : ℕ) (a b : St F) : Prop where
  conf : 0 < n → a.conf = b.conf
  cmax : 0 < n → a.cmax = b.cmax
  negs : 0 < n → a.negs = b.negs
  cor : 0 < n → a.cor = b.cor
  acca : 0 < n → a.acca = b.acca
  accb : 0 < n → a.accb = b.accb
  la : ∀ y : S20000x128.Idx, (y (0 : Fin 2)).val < 1000 * n → a.la y = b.la y
  ab : ∀ y : S20000x2.Idx, (y (0 : Fin 2)).val < 1000 * n → a.ab y = b.ab y
  pw : ∀ y : S20000x128.Idx, (y (0 : Fin 2)).val + 20000 < 1000 * n → a.pw y = b.pw y

theorem agree_zero (a b : St F) : Agree 0 a b :=
  ⟨fun h => absurd h (by omega), fun h => absurd h (by omega), fun h => absurd h (by omega), fun h => absurd h (by omega),
    fun h => absurd h (by omega), fun h => absurd h (by omega), fun y h => absurd h (by omega), fun y h => absurd h (by omega),
    fun y h => absurd h (by omega)⟩

/-- Two contents that agree off a window agree everywhere once the window holds the same payload in both. -/
theorem put_agree {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) :
    VecWindow.put x off size w y = VecWindow.put x' off size w y := by
  unfold VecWindow.put
  by_cases hc : ∀ a, off a ≤ (y a).val ∧ (y a).val < off a + size a
  · rw [dif_pos hc, dif_pos hc]
  · rw [dif_neg hc, dif_neg hc]; exact h hc

/-- A point of the first pass keeps the agreement, given the accumulators agree. -/
theorem agree_stepA (n : ℕ) (hn : n < 20) (oh : Vec F S80x128 .f32) (lg sc : Vec F S1000x80 .f32) (ib : Vec F S1000x128 .i32) (a b : St F)
    (h : Agree n a b) (h1 : a.conf = b.conf) (h2 : a.cmax = b.cmax) (h3 : a.negs = b.negs) (h4 : a.cor = b.cor)
    (h5 : a.acca = b.acca) (h6 : a.accb = b.accb) :
    Agree (n + 1) (stepA oh lg sc ib (1000 * (n % 20)) a) (stepA oh lg sc ib (1000 * (n % 20)) b) := by
  have e : n % 20 = n := Nat.mod_eq_of_lt hn
  rw [e]
  refine ⟨fun _ => ?_, fun _ => h2, fun _ => ?_, fun _ => ?_, fun _ => h5, fun _ => h6, fun y hy => ?_, fun y hy => ?_, fun y hy => absurd hy (by omega)⟩
  · simp only [stepA, h1]
  · simp only [stepA, h3]
  · simp only [stepA, h4]
  · refine put_agree _ _ _ _ _ y fun hc => h.la y ?_
    by_contra hlt
    refine hc fun x => ?_
    fin_cases x
    · show 1000 * n ≤ (y (0 : Fin 2)).val ∧ (y (0 : Fin 2)).val < 1000 * n + 1000; omega
    · have := (y (1 : Fin 2)).isLt; show 0 ≤ (y (1 : Fin 2)).val ∧ (y (1 : Fin 2)).val < 0 + 128
      exact ⟨Nat.zero_le _, by simpa using this⟩
  · refine put_agree _ _ _ _ _ y fun hc => put_agree _ _ _ _ _ y fun hc' => h.ab y ?_
    by_contra hlt
    have hy1 : (y (1 : Fin 2)).val < 2 := (y (1 : Fin 2)).isLt
    by_cases h0 : (y (1 : Fin 2)).val = 0
    · refine hc' fun x => ?_
      fin_cases x
      · show 1000 * n ≤ (y (0 : Fin 2)).val ∧ (y (0 : Fin 2)).val < 1000 * n + 1000; omega
      · show 0 ≤ (y (1 : Fin 2)).val ∧ (y (1 : Fin 2)).val < 0 + 1; omega
    · refine hc fun x => ?_
      fin_cases x
      · show 1000 * n ≤ (y (0 : Fin 2)).val ∧ (y (0 : Fin 2)).val < 1000 * n + 1000; omega
      · show 1 ≤ (y (1 : Fin 2)).val ∧ (y (1 : Fin 2)).val < 1 + 1; omega

/-- A point keeps the agreement. -/
theorem agree_step (n : ℕ) (hn : n < 60) (oh : Vec F S80x128 .f32) (lg sc : Vec F S1000x80 .f32) (ib : Vec F S1000x128 .i32) (gi : Vec F S1000x80 .f32) (a b : St F)
    (h : Agree n a b) : Agree (n + 1) (step n oh lg sc ib gi a) (step n oh lg sc ib gi b) := by
  unfold step
  by_cases h0 : n = 0
  · subst h0
    rw [if_pos rfl, if_pos rfl]
    exact agree_stepA 0 (by omega) oh lg sc ib (stepZ a) (stepZ b) (agree_zero _ _) rfl rfl rfl rfl rfl rfl
  rw [if_neg h0, if_neg h0]
  have hp : 0 < n := Nat.pos_of_ne_zero h0
  by_cases h1 : n < 20
  · rw [if_pos h1, if_pos h1]
    exact agree_stepA n h1 oh lg sc ib a b h (h.conf hp) (h.cmax hp) (h.negs hp) (h.cor hp) (h.acca hp) (h.accb hp)
  rw [if_neg h1, if_neg h1]
  have ela : a.la = b.la := funext fun y => h.la y (by have : (y (0 : Fin 2)).val < 20000 := (y (0 : Fin 2)).isLt; omega)
  have eab : a.ab = b.ab := funext fun y => h.ab y (by have : (y (0 : Fin 2)).val < 20000 := (y (0 : Fin 2)).isLt; omega)
  by_cases h2 : n < 40
  · rw [if_pos h2, if_pos h2]
    refine ⟨fun _ => h.conf hp, fun _ => ?_, fun _ => h.negs hp, fun _ => h.cor hp, fun _ => h.acca hp, fun _ => h.accb hp,
      fun y _ => congrFun ela y, fun y _ => congrFun eab y, fun y hy => ?_⟩
    · simp only [stepB, ela, h.conf hp, h.cmax hp]
    · simp only [stepB, ela, h.conf hp]
      have e : n % 20 = n - 20 := by omega
      refine put_agree _ _ _ _ _ y fun hc => h.pw y ?_
      by_contra hlt
      refine hc fun x => ?_
      fin_cases x
      · show 1000 * (n % 20) ≤ (y (0 : Fin 2)).val ∧ (y (0 : Fin 2)).val < 1000 * (n % 20) + 1000; omega
      · have := (y (1 : Fin 2)).isLt; show 0 ≤ (y (1 : Fin 2)).val ∧ (y (1 : Fin 2)).val < 0 + 128
        exact ⟨Nat.zero_le _, by simpa using this⟩
  rw [if_neg h2, if_neg h2]
  have epw : a.pw = b.pw := funext fun y => h.pw y (by have : (y (0 : Fin 2)).val < 20000 := (y (0 : Fin 2)).isLt; omega)
  refine ⟨fun _ => h.conf hp, fun _ => h.cmax hp, fun _ => h.negs hp, fun _ => h.cor hp, fun _ => ?_, fun _ => ?_,
    fun y _ => congrFun ela y, fun y _ => congrFun eab y, fun y _ => congrFun epw y⟩
  · simp only [stepC, epw, eab, h.cmax hp, h.acca hp]
  · simp only [stepC, epw, eab, h.cmax hp, h.accb hp]

/-- Before the first point: anything, here zeros. -/
def st0 : St F :=
  ⟨constant _ .f32 0x00000000#32, constant _ .f32 0x00000000#32, constant _ .f32 0x00000000#32, constant _ .f32 0x00000000#32,
    constant _ .f32 0x00000000#32, constant _ .f32 0x00000000#32, constant _ .f32 0x00000000#32, constant _ .f32 0x00000000#32,
    constant _ .f32 0x00000000#32⟩

/-- The blocks the point reads, at their own types. -/
abbrev bOh (c : Dev nD) (t : Fin cfg0.N) : Vec F S80x128 .f32 := iblk m c 0 t
abbrev bLg (c : Dev nD) (t : Fin cfg0.N) : Vec F S1000x80 .f32 := iblk m c 1 t
abbrev bSc (c : Dev nD) (t : Fin cfg0.N) : Vec F S1000x80 .f32 := iblk m c 2 t
abbrev bIb (c : Dev nD) (t : Fin cfg0.N) : Vec F S1000x128 .i32 := iblk m c 3 t
abbrev bGi (c : Dev nD) (t : Fin cfg0.N) : Vec F S1000x80 .f32 := iblk m c 4 t

/-- The scratch contents before point `n`, started from zeros. -/
def traj (c : Dev nD) : ℕ → St F
  | 0 => st0
  | n + 1 => if h : n < 60 then step n (bOh m c ⟨n, h⟩) (bLg m c ⟨n, h⟩) (bSc m c ⟨n, h⟩) (bIb m c ⟨n, h⟩) (bGi m c ⟨n, h⟩) (traj c n) else traj c n

theorem traj_succ (c : Dev nD) (t : Fin cfg0.N) :
    traj m c (t.val + 1) = step t.val (bOh m c t) (bLg m c t) (bSc m c t) (bIb m c t) (bGi m c t) (traj m c t.val) := by
  show (if h : t.val < 60 then _ else _) = _
  rw [dif_pos (show t.val < 60 from t.isLt)]

/-- What the output array holds after the run. -/
def outv (c : Dev nD) : Vec F S8x128 .f32 := outD (traj m c 60)

theorem outD_agree (n : ℕ) (hn : 0 < n) (a b : St F) (h : Agree n a b) : outD a = outD b := by
  unfold outD; rw [h.negs hn, h.acca hn, h.accb hn, h.cor hn]

/-! ## The proof data -/

/-- The scratch buffers at given contents. -/
abbrev ownsSt (c : Dev nD) (st : St F) : sProp 𝕄 :=
  iprop(owns (c : Thread nD τ) (Memref.whole cc0_scratch0) fullShare st.la ∗ owns (c : Thread nD τ) (Memref.whole cc0_scratch1) fullShare st.pw ∗ owns (c : Thread nD τ) (Memref.whole cc0_scratch2) fullShare st.ab ∗ owns (c : Thread nD τ) (Memref.whole cc0_scratch3) fullShare st.conf ∗ owns (c : Thread nD τ) (Memref.whole cc0_scratch4) fullShare st.cmax ∗ owns (c : Thread nD τ) (Memref.whole cc0_scratch5) fullShare st.negs ∗ owns (c : Thread nD τ) (Memref.whole cc0_scratch6) fullShare st.cor ∗ owns (c : Thread nD τ) (Memref.whole cc0_scratch7) fullShare st.acca ∗ owns (c : Thread nD τ) (Memref.whole cc0_scratch8) fullShare st.accb)

/-- Between points: the scratch buffers at contents that agree with the run started from zeros, and the generator register. -/
def Phi (c : Dev nD) (n : ℕ) : sProp 𝕄 :=
  iprop((∃ st : St F, ⌜Agree n st (traj m c n)⌝ ∗ ownsSt c st) ∗ ∃ r, prngReg c r)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- The six staging buffers and the scratch, the output's at `x7`, the scratch at `st`. -/
abbrev stay (c : Dev nD) (t : Fin cfg0.N) (x7 : Vec F S8x128 .f32) (st : St F) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare x7 ∗ ownsSt c st)

/-- The first point. -/
theorem ptZ (c : Dev nD) (t : Fin cfg0.N) (ht : t.val = 0) (x7 : Vec F S8x128 .f32) (st : St F) (K : PUnit → sProp 𝕄) :
    iprop(stay m c t x7 st ∗ (stay m c t x7 (step t.val (bOh m c t) (bLg m c t) (bSc m c t) (bIb m c t) (bGi m c t) st) -∗ K ⟨⟩))
      ⊢ wp frame (wpE (defs₀ (F := F)) Variants.none c none) Set.univ (bodyAt0 t) K := by
  unfold bodyAt0 stay ownsSt step
  rw [if_pos ht]
  refine BIBase.Entails.trans ?_ (runZ c (grid0.coords t) (1000 * (t.val % 20)) (ho t.val) ((c1_iff t).mpr (by omega)) ((c2_iff t).mpr (by omega)) (fun h => absurd ((c3_iff t).mp h) (by omega)) (fun h => absurd ((c4_iff t).mp h) (by omega)) (fun h => absurd ((c5_iff t).mp h) (by omega)) (off1_eq t) (off2_eq t) (off3_eq t) _ _ _ _ _ _ _ _ _ _ _ _ _ _ _ _ _ _ _ _ _ _ _ _ _ _ _ _ _ _ (bOh m c t) (bLg m c t) (bSc m c t) (bIb m c t) (bGi m c t) x7 st K)
  iintro ⟨⟨H0, H1, H2, H3, H4, H5, S0, S1, S2, S3, S4, S5, S6, S7, S8⟩, Hk⟩
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hk

/-- A later point of the first pass. -/
theorem ptA (c : Dev nD) (t : Fin cfg0.N) (ht : 0 < t.val) (ht' : t.val < 20) (x7 : Vec F S8x128 .f32) (st : St F) (K : PUnit → sProp 𝕄) :
    iprop(stay m c t x7 st ∗ (stay m c t x7 (step t.val (bOh m c t) (bLg m c t) (bSc m c t) (bIb m c t) (bGi m c t) st) -∗ K ⟨⟩))
      ⊢ wp frame (wpE (defs₀ (F := F)) Variants.none c none) Set.univ (bodyAt0 t) K := by
  unfold bodyAt0 stay ownsSt step
  rw [if_neg (by omega), if_pos ht']
  refine BIBase.Entails.trans ?_ (runA c (grid0.coords t) (1000 * (t.val % 20)) (ho t.val) (fun h => absurd ((c1_iff t).mp h) (by omega)) ((c2_iff t).mpr (by omega)) (fun h => absurd ((c3_iff t).mp h) (by omega)) (fun h => absurd ((c4_iff t).mp h) (by omega)) (fun h => absurd ((c5_iff t).mp h) (by omega)) (off1_eq t) (off2_eq t) (off3_eq t) _ _ _ _ _ _ _ _ _ _ _ _ _ _ _ _ _ _ _ _ _ _ _ _ _ _ _ _ _ _ (bOh m c t) (bLg m c t) (bSc m c t) (bIb m c t) (bGi m c t) x7 st K)
  iintro ⟨⟨H0, H1, H2, H3, H4, H5, S0, S1, S2, S3, S4, S5, S6, S7, S8⟩, Hk⟩
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hk

/-- A point of the second pass. -/
theorem ptB (c : Dev nD) (t : Fin cfg0.N) (ht : 20 ≤ t.val) (ht' : t.val < 40) (x7 : Vec F S8x128 .f32) (st : St F) (K : PUnit → sProp 𝕄) :
    iprop(stay m c t x7 st ∗ (stay m c t x7 (step t.val (bOh m c t) (bLg m c t) (bSc m c t) (bIb m c t) (bGi m c t) st) -∗ K ⟨⟩))
      ⊢ wp frame (wpE (defs₀ (F := F)) Variants.none c none) Set.univ (bodyAt0 t) K := by
  unfold bodyAt0 stay ownsSt step
  rw [if_neg (by omega), if_neg (by omega), if_pos ht']
  refine BIBase.Entails.trans ?_ (runB c (grid0.coords t) (1000 * (t.val % 20)) (ho t.val) (fun h => absurd ((c1_iff t).mp h) (by omega)) (fun h => absurd ((c2_iff t).mp h) (by omega)) ((c3_iff t).mpr (by omega)) (fun h => absurd ((c4_iff t).mp h) (by omega)) (fun h => absurd ((c5_iff t).mp h) (by omega)) (off4_eq t) _ _ _ _ _ _ _ _ _ _ _ _ _ _ _ _ _ _ _ _ _ _ _ _ _ _ _ _ _ _ (bOh m c t) (bLg m c t) (bSc m c t) (bIb m c t) (bGi m c t) x7 st K)
  iintro ⟨⟨H0, H1, H2, H3, H4, H5, S0, S1, S2, S3, S4, S5, S6, S7, S8⟩, Hk⟩
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hk

/-- A point of the third pass but the last. -/
theorem ptC (c : Dev nD) (t : Fin cfg0.N) (ht : 40 ≤ t.val) (ht' : t.val < 59) (x7 : Vec F S8x128 .f32) (st : St F) (K : PUnit → sProp 𝕄) :
    iprop(stay m c t x7 st ∗ (stay m c t x7 (step t.val (bOh m c t) (bLg m c t) (bSc m c t) (bIb m c t) (bGi m c t) st) -∗ K ⟨⟩))
      ⊢ wp frame (wpE (defs₀ (F := F)) Variants.none c none) Set.univ (bodyAt0 t) K := by
  unfold bodyAt0 stay ownsSt step
  rw [if_neg (by omega), if_neg (by omega), if_neg (by omega)]
  refine BIBase.Entails.trans ?_ (runC c (grid0.coords t) (1000 * (t.val % 20)) (ho t.val) (fun h => absurd ((c1_iff t).mp h) (by omega)) (fun h => absurd ((c2_iff t).mp h) (by omega)) (fun h => absurd ((c3_iff t).mp h) (by omega)) ((c4_iff t).mpr (by omega)) (fun h => absurd ((c5_iff t).mp h) (by omega)) (off5_eq t) (off6_eq t) _ _ _ _ _ _ _ _ _ _ _ _ _ _ _ _ _ _ _ _ _ _ _ _ _ _ _ _ _ _ (bOh m c t) (bLg m c t) (bSc m c t) (bIb m c t) (bGi m c t) x7 st K)
  iintro ⟨⟨H0, H1, H2, H3, H4, H5, S0, S1, S2, S3, S4, S5, S6, S7, S8⟩, Hk⟩
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hk

/-- The last point. -/
theorem ptD (c : Dev nD) (t : Fin cfg0.N) (ht : t.val = 59) (x7 : Vec F S8x128 .f32) (st : St F) (K : PUnit → sProp 𝕄) :
    iprop(stay m c t x7 st ∗ (stay m c t (outD (step t.val (bOh m c t) (bLg m c t) (bSc m c t) (bIb m c t) (bGi m c t) st)) (step t.val (bOh m c t) (bLg m c t) (bSc m c t) (bIb m c t) (bGi m c t) st) -∗ K ⟨⟩))
      ⊢ wp frame (wpE (defs₀ (F := F)) Variants.none c none) Set.univ (bodyAt0 t) K := by
  unfold bodyAt0 stay ownsSt step
  rw [if_neg (by omega), if_neg (by omega), if_neg (by omega)]
  refine BIBase.Entails.trans ?_ (runD c (grid0.coords t) (1000 * (t.val % 20)) (ho t.val) (fun h => absurd ((c1_iff t).mp h) (by omega)) (fun h => absurd ((c2_iff t).mp h) (by omega)) (fun h => absurd ((c3_iff t).mp h) (by omega)) ((c4_iff t).mpr (by omega)) ((c5_iff t).mpr (by omega)) (off5_eq t) (off6_eq t) _ _ _ _ _ _ _ _ _ _ _ _ _ _ _ _ _ _ _ _ _ _ _ _ _ _ _ _ _ _ (bOh m c t) (bLg m c t) (bSc m c t) (bIb m c t) (bGi m c t) x7 st K)
  iintro ⟨⟨H0, H1, H2, H3, H4, H5, S0, S1, S2, S3, S4, S5, S6, S7, S8⟩, Hk⟩
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hk

/-- Any point but the last leaves the output's buffer as it was. -/
theorem ptAny (c : Dev nD) (t : Fin cfg0.N) (ht : t.val < 59) (x7 : Vec F S8x128 .f32) (st : St F) (K : PUnit → sProp 𝕄) :
    iprop(stay m c t x7 st ∗ (stay m c t x7 (step t.val (bOh m c t) (bLg m c t) (bSc m c t) (bIb m c t) (bGi m c t) st) -∗ K ⟨⟩))
      ⊢ wp frame (wpE (defs₀ (F := F)) Variants.none c none) Set.univ (bodyAt0 t) K := by
  by_cases h0 : t.val = 0
  · exact ptZ m c t h0 x7 st K
  by_cases h1 : t.val < 20
  · exact ptA m c t (by omega) h1 x7 st K
  by_cases h2 : t.val < 40
  · exact ptB m c t (by omega) h2 x7 st K
  exact ptC m c t (by omega) ht x7 st K

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
/-- what it returns at a point that does not write out, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (∃ d, owns (c : Thread nD τ) (st0_5 t) fullShare ((dats m 0 c).before 5 t d)))
/-- and at the last point. -/
def bodyPostD (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem Phi_cast (c : Dev nD) (t : Fin cfg0.N) : (dats m 0 c).Φ t.castSucc = Phi m c t.val := rfl
theorem Phi_succ (c : Dev nD) (t : Fin cfg0.N) : (dats m 0 c).Φ t.succ = Phi m c (t.val + 1) := rfl

/-- The body at any point but the last, -/
theorem sound_body (c : Dev nD) (t : Fin cfg0.N) (ht : t.val < 59) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [Phi_cast, Phi_succ, show (dats m 0 c).owesAt () t.succ = (dats m 0 c).owesAt () t.castSucc from rfl,
    after0_0, after0_1, after0_2, after0_3, after0_4]
  unfold Phi
  iintro ⟨⟨⟨%st, %hst, HS⟩, Hg⟩, Ho, ⟨%d0, H0⟩, ⟨%d1, H1⟩, ⟨%d2, H2⟩, ⟨%d3, H3⟩, ⟨%d4, H4⟩, ⟨%d5, H5⟩⟩
  iapply (ptAny m c t ht ((dats m 0 c).before 5 t d5) st _)
  isplitl [HS H0 H1 H2 H3 H4 H5]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  have hA := agree_step t.val t.isLt (bOh m c t) (bLg m c t) (bSc m c t) (bIb m c t) (bGi m c t) st _ hst
  rw [← traj_succ m c t] at hA
  isplitl [HS Hg]
  · isplitl [HS]
    · iexists _; isplitr; swap; · iexact HS
      ipureintro; exact hA
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

/-- and at the last. -/
theorem sound_bodyD (c : Dev nD) (t : Fin cfg0.N) (ht : t.val = 59) :
    bodyPre m c t ⊢ wp frame (wpE (defs₀ (F := F)) Variants.none c none) Set.univ (bodyAt0 t) (fun _ => bodyPostD m c t) := by
  unfold bodyPre bodyPostD
  simp only [before0_0, before0_1, before0_2, before0_3, before0_4]
  rw [Phi_cast, Phi_succ, show (dats m 0 c).owesAt () t.succ = (dats m 0 c).owesAt () t.castSucc from rfl,
    after0_0, after0_1, after0_2, after0_3, after0_4, after0_5]
  unfold Phi
  iintro ⟨⟨⟨%st, %hst, HS⟩, Hg⟩, Ho, ⟨%d0, H0⟩, ⟨%d1, H1⟩, ⟨%d2, H2⟩, ⟨%d3, H3⟩, ⟨%d4, H4⟩, ⟨%d5, H5⟩⟩
  iapply (ptD m c t ht ((dats m 0 c).before 5 t d5) st _)
  isplitl [HS H0 H1 H2 H3 H4 H5]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  have hA := agree_step t.val t.isLt (bOh m c t) (bLg m c t) (bSc m c t) (bIb m c t) (bGi m c t) st _ hst
  rw [← traj_succ m c t] at hA
  isplitl [HS Hg]
  · isplitl [HS]
    · iexists _; isplitr; swap; · iexact HS
      ipureintro; exact hA
    iexact Hg
  isplitl [Ho]; · iexact Ho
  isplitl [H0]; · iexact H0
  isplitl [H1]; · iexact H1
  isplitl [H2]; · iexact H2
  isplitl [H3]; · iexact H3
  isplitl [H4]; · iexact H4
  have e : outD (step t.val (bOh m c t) (bLg m c t) (bSc m c t) (bIb m c t) (bGi m c t) st) = outv m c := by
    refine (outD_agree (t.val + 1) (by omega) _ _ hA).trans ?_
    unfold outv; rw [ht]
  rw [← e]; iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem idle5 (t : Fin cfg0.N) : cfg0.idle (5 : Fin 6) (cfg0.grid.coords t) = !(k0_cond5 (grid0.coords t) == 1#1) := rfl

/-- The library's body obligation, at every point. -/
theorem body_obligation (c : Dev nD) : BodyObligation (dats (F := F) m 0 c) (defs₀ (F := F)) Variants.none () Set.univ := fun t => by
  rw [bigSep_W0, bigSep_W0, defs₀_row]
  by_cases ht : t.val < 59
  · have hi : cfg0.idle (5 : Fin 6) (cfg0.grid.coords t) = true := by
      rw [idle5]; have : ¬ k0_cond5 (grid0.coords t) = 1#1 := fun h => absurd ((c5_iff t).mp h) (by omega)
      simp [this]
    have hf : (cfg0.win (5 : Fin 6)).flush t = false := by
      by_contra h
      have := (flush0_5 t).mp (by simpa using h)
      have := t.isLt; omega
    rw [hi, hf]
    exact triple_restated (sound_body m c t ht) rfl .rfl fun _ => .rfl
  · have ht' : t.val = 59 := by have h := t.isLt; have : cfg0.N = 60 := N_0; omega
    have hi : cfg0.idle (5 : Fin 6) (cfg0.grid.coords t) = false := by
      rw [idle5, (c5_iff t).mpr ht']; rfl
    rw [hi]
    exact triple_restated (sound_bodyD m c t ht') rfl .rfl fun _ => .rfl

theorem phi_in (c : Dev nD) : Pipeline.ΦA spec0 c ⊢ (dats m 0 c).Φ 0 := by
  show _ ⊢ Phi m c 0
  unfold Pipeline.ΦA Phi ownsSt
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hg⟩
  isplitr [Hg]
  · iexists ⟨f0, f1, f2, f3, f4, f5, f6, f7, f8⟩
    isplitr
    · ipureintro; exact agree_zero _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem phi_out (c : Dev nD) : (dats m 0 c).Φ (Fin.last cfg0.N) ⊢ Pipeline.ΦA spec0 c := by
  show Phi m c 60 ⊢ _
  unfold Pipeline.ΦA Phi ownsSt
  rw [scopedRest0_eq]
  simp only [owns_whole]
  iintro ⟨⟨%st, -, H0, H1, H2, H3, H4, H5, H6, H7, H8⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  iexact Hg

/-! ## The run -/

set_option backward.isDefEq.respectTransparency.types false in
/-- The launch: every array of the pipeline ends at what the proof data says, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.IdealRun

end
-- ==== Proof.Frames.lean ====
/-
  The claims that do not speak of values: each program runs and leaves its arguments as they were, and the kernel read over the
  extended reals is the printed kernel with its one named constant.
-/
module

public import proofs.«01_k».proof.Defs
public import proofs.«01_k».proof.Proof.Run
public import proofs.«01_k».proof.Proof.RunBits
public import proofs.«01_k».proof.Proof.Gen.ReferenceIdeal.Run

@[expose] public section

noncomputable section

namespace Cert.Proof

open Idealize.ShloMosaic Idealize.SL.Sem

/-- The kernel runs, and leaves its six arguments and every counter as they were. -/
theorem frame_kernel : Cert.quiescent_Kernel := fun m ρ _ => Cert.Proof.BitsRun.frame (F := Bits) m ρ

/-- The same of the kernel read over the extended reals. -/
theorem frame_ideal : Cert.quiescent_KernelIdeal := fun m ρ _ => Cert.Proof.IdealRun.frame (F := Ideal) m ρ

/-- The reference runs, and leaves its six arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant `no_floor` stands for minus infinity. -/
theorem preserves : Cert.preserves_Kernel_KernelIdeal :=
  IdealRules.named_const.statement Cert.KernelIdeal.κ "no_floor" .f32 0x006CE3EE#32 ⊥ rfl

end Cert.Proof

end
-- ==== Proof.Blocks.lean ====
/-
  What each block the kernel reads holds, in terms of the argument arrays.
-/
module

public import proofs.«01_k».proof.Proof.Run
public import Idealize.ShloMosaic.Lib.Pointwise
public import Idealize.ShloMosaic.Lib.Pipeline.ValueKit
public import Idealize.ShloMosaic.Lib.StableHlo.ReadAt

@[expose] public section

noncomputable section

namespace Cert.Proof.IdealRun

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The argument arrays as launched. -/
abbrev gLg : Vec Ideal S20000x80 .f32 := m ((c.tc : Thread nD τ).loc main_arg0)
abbrev gSc : Vec Ideal S20000x80 .f32 := m ((c.tc : Thread nD τ).loc main_arg1)
abbrev gGi : Vec Ideal S20000x80 .f32 := m ((c.tc : Thread nD τ).loc main_arg2)
abbrev gIb : Vec Ideal S20000x128 .i32 := m ((c.tc : Thread nD τ).loc main_arg3)
abbrev gLab : Vec Ideal S128 .i32 := m ((c.tc : Thread nD τ).loc main_arg4)

/-- Row `n` of an array of 20000 rows, for any number. -/
def rw' (n : ℕ) : Fin 20000 := ⟨n % 20000, Nat.mod_lt _ (by decide)⟩

theorem idx1 : ∀ t : Fin cfg0.N, (cfg0.win 1).index t 0 = (if t.val < 20 then t.val else 0) ∧ (cfg0.win 1).index t 1 = 0 := by decide +kernel
theorem idx2 : ∀ t : Fin cfg0.N, (cfg0.win 2).index t 0 = (if t.val < 20 then t.val else 0) ∧ (cfg0.win 2).index t 1 = 0 := by decide +kernel
theorem idx3 : ∀ t : Fin cfg0.N, (cfg0.win 3).index t 0 = (if t.val < 20 then t.val else 0) ∧ (cfg0.win 3).index t 1 = 0 := by decide +kernel
theorem idx4 : ∀ t : Fin cfg0.N, (cfg0.win 4).index t 0 = (if 20 ≤ t.val ∧ t.val < 40 then t.val - 20 else 0) ∧ (cfg0.win 4).index t 1 = 0 := by decide +kernel
theorem idx0 : ∀ t : Fin cfg0.N, (cfg0.win 0).index t 0 = 0 ∧ (cfg0.win 0).index t 1 = 0 := by decide +kernel

/-- In the first stage the block of logits is rows `1000 t …` of the logits. -/
theorem bLg_at (t : Fin cfg0.N) (ht : t.val < 20) (r : Fin 1000) (k : Fin 80) :
    bLg m c t (ix2 r k) = gLg m c (ix2 (rw' (1000 * t.val + r.val)) k) := by
  obtain ⟨h0, h1⟩ := idx1 t
  rw [if_pos ht] at h0
  have hr := r.isLt
  blk_ext [iblk, V, h0, h1, rw']

theorem bSc_at (t : Fin cfg0.N) (ht : t.val < 20) (r : Fin 1000) (k : Fin 80) :
    bSc m c t (ix2 r k) = gSc m c (ix2 (rw' (1000 * t.val + r.val)) k) := by
  obtain ⟨h0, h1⟩ := idx2 t
  rw [if_pos ht] at h0
  have hr := r.isLt
  blk_ext [iblk, V, h0, h1, rw']

theorem bIb_at (t : Fin cfg0.N) (ht : t.val < 20) (r : Fin 1000) (g : Fin 128) :
    bIb m c t (ix2 r g) = gIb m c (ix2 (rw' (1000 * t.val + r.val)) g) := by
  obtain ⟨h0, h1⟩ := idx3 t
  rw [if_pos ht] at h0
  have hr := r.isLt
  blk_ext [iblk, V, h0, h1, rw']

/-- In the second stage the block of overlaps is rows `1000 (t - 20) …` of them. -/
theorem bGi_at (t : Fin cfg0.N) (ht : 20 ≤ t.val) (ht' : t.val < 40) (r : Fin 1000) (k : Fin 80) :
    bGi m c t (ix2 r k) = gGi m c (ix2 (rw' (1000 * (t.val - 20) + r.val)) k) := by
  obtain ⟨h0, h1⟩ := idx4 t
  rw [if_pos ⟨ht, ht'⟩] at h0
  have hr := r.isLt
  blk_ext [iblk, V, h0, h1, rw']

/-- The small block is one at (class, column) where the column's label is the class, zero elsewhere. -/
theorem bOh_at (t : Fin cfg0.N) (k : Fin 80) (g : Fin 128) :
    bOh m c t (ix2 k g) = if gLab m c (ix1 g) = BitVec.ofNat 32 k.val then 1 else 0 := by
  obtain ⟨h0, h1⟩ := idx0 t
  have e : bOh m c t (ix2 k g) = (V m c main_v4 : Vec Ideal S80x128 .f32) (ix2 k g) := by
    blk_ext [iblk, h0, h1]
  rw [e]
  show StableHlo.after hostOps0 (fun b => m (c, b)) (Proc.tc.devRef main_v4) (ix2 k g) = _
  unfold hostOps0
  after_reads_at
  show FloatOps.uitofp FTy.f32 (IntOp.cmpi CmpIPredicate.eq (gLab m c (ix1 g)) (BitVec.ofNat 32 k.val)) = _
  by_cases h : gLab m c (ix1 g) = BitVec.ofNat 32 k.val
  · rw [if_pos h, h]
    show (((IntOp.cmpi CmpIPredicate.eq (BitVec.ofNat 32 k.val) (BitVec.ofNat 32 k.val)).toNat : ℝ) : EReal) = 1
    simp [IntOp.cmpi]
  · rw [if_neg h]
    show (((IntOp.cmpi CmpIPredicate.eq (gLab m c (ix1 g)) (BitVec.ofNat 32 k.val)).toNat : ℝ) : EReal) = 0
    simp [IntOp.cmpi, h]

end Cert.Proof.IdealRun

end
-- ==== Proof.Spec.lean ====
/-
  The scalar functions the loss is made of, over the extended reals, and how a running sum or maximum takes up a block of rows.
-/
module

public import Idealize.ShloMosaic.Lib.Pointwise
public import Idealize.ShloMosaic.Lib.VecWindow

@[expose] public section

noncomputable section

namespace Cert.Proof.Loss

open Idealize.ShloMosaic

/-- The two ends of the clip. -/
def lo : EReal := Ideal.ofBits FTy.f32 0x38D1B717#32
def up : EReal := Ideal.ofBits FTy.f32 0x3F7FF972#32

/-- A probability kept away from zero and one. -/
def bp (x : EReal) : EReal := min up (max lo (Ideal.logistic x))
/-- The focal loss of a negative. -/
def fneg (x : EReal) : EReal := (0 - Ideal.log (1 - bp x)) * bp x * bp x
/-- The row factor of the positive part. -/
def av (x : EReal) : EReal :=
  min (Ideal.log up) (max (Ideal.log lo) (x + Ideal.log (1 - bp x))) * (1 - bp x) * (1 - bp x)
/-- The row factor of the box part. -/
def bv (x : EReal) : EReal := 0 - fneg x
/-- A weight over its column's largest, kept away from zero and one. -/
def tv (pw cm : EReal) : EReal := min up (max lo ((pw + lo) * Ideal.div 1 (cm + lo)))
/-- The square of the weight and of its complement, where there is a weight. -/
def u2 (pw cm : EReal) : EReal := if 0 ≤ pw then tv pw cm * tv pw cm else 0
def wv (pw cm : EReal) : EReal := if 0 ≤ pw then (1 - tv pw cm) * (1 - tv pw cm) else 0

theorem ofBits_bot : Ideal.ofBits FTy.f32 0xFF800000#32 = ⊥ := by
  simp [Ideal.ofBits, Ideal.ieee]

/-- A running sum takes up a thousand rows. -/
theorem sum_block (f : ℕ → EReal) (k : ℕ) :
    ∑ n ∈ Finset.range k, f n + ∑ r : Fin 1000, f (k + r.val) = ∑ n ∈ Finset.range (k + 1000), f n := by
  rw [Finset.sum_range_add, Fin.sum_univ_eq_sum_range (fun r => f (k + r)) 1000]

/-- A running maximum takes up a thousand rows. -/
theorem max_block (f : ℕ → EReal) (b : EReal) (k : ℕ) :
    max (max b ((Finset.range k).sup f)) (Finset.fold max ⊥ (fun r : Fin 1000 => f (k + r.val)) Finset.univ)
      = max b ((Finset.range (k + 1000)).sup f) := by
  refine eq_of_forall_ge_iff fun c => ?_
  simp only [max_le_iff, Finset.sup_le_iff, Finset.fold_max_le, Finset.mem_range, Finset.mem_univ, true_implies, bot_le, true_and]
  constructor
  · rintro ⟨⟨hb, h1⟩, h2⟩
    refine ⟨hb, fun n hn => ?_⟩
    by_cases h : n < k
    · exact h1 n h
    · have := h2 ⟨n - k, by omega⟩
      rwa [show k + (⟨n - k, by omega⟩ : Fin 1000).val = n from by show k + (n - k) = n; omega] at this
  · rintro ⟨hb, h⟩
    exact ⟨⟨hb, fun n hn => h n (by omega)⟩, fun r => h _ (by have := r.isLt; omega)⟩

/-- A rectangle put into a matrix, read at a place: the rectangle's element inside it, the matrix's outside. -/
theorem put_at {α : Type} {N M a b : ℕ} (x : (⟨2, ![N, M]⟩ : Shape).Idx → α) (o p : ℕ) (w : (⟨2, ![a, b]⟩ : Shape).Idx → α)
    (n : Fin N) (g : Fin M) :
    VecWindow.put (s := ⟨2, ![N, M]⟩) x ![o, p] (⟨2, ![a, b]⟩ : Shape).size w (ix2 n g)
      = if h : (o ≤ n.val ∧ n.val < o + a) ∧ (p ≤ g.val ∧ g.val < p + b) then
          w (ix2 ⟨n.val - o, by omega⟩ ⟨g.val - p, by omega⟩) else x (ix2 n g) := by
  unfold VecWindow.put
  by_cases h : (o ≤ n.val ∧ n.val < o + a) ∧ (p ≤ g.val ∧ g.val < p + b)
  · rw [dif_pos h, dif_pos (show ∀ i : Fin 2, (![o, p] : Fin 2 → ℕ) i ≤ (ix2 n g i).val ∧ (ix2 n g i).val < (![o, p] : Fin 2 → ℕ) i + (⟨2, ![a, b]⟩ : Shape).size i from by
      intro i; fin_cases i
      · exact h.1
      · exact h.2)]
    congr 1
    funext i; fin_cases i <;> rfl
  · rw [dif_neg h, dif_neg]
    intro h'
    exact h ⟨h' 0, h' 1⟩

/-- A thousand rows of a matrix, read at a place. -/
theorem window_at {α : Type} {N M a b : ℕ} (x : (⟨2, ![N, M]⟩ : Shape).Idx → α) (o : ℕ)
    (inb : ∀ i, (![o, 0] : Fin 2 → ℕ) i + (⟨2, ![a, b]⟩ : Shape).size i ≤ (⟨2, ![N, M]⟩ : Shape).size i)
    (n : Fin a) (g : Fin b) (n' : Fin N) (g' : Fin M) (hn : n'.val = o + n.val) (hg : g'.val = g.val) :
    VecWindow.window (s := ⟨2, ![N, M]⟩) x ![o, 0] (⟨2, ![a, b]⟩ : Shape).size inb (ix2 n g) = x (ix2 n' g') := by
  unfold VecWindow.window
  congr 1
  funext i
  refine Fin.ext ?_
  fin_cases i
  · show o + 1 * n.val = n'.val; omega
  · show 0 + 1 * g.val = g'.val; omega

end Cert.Proof.Loss

end
-- ==== Proof.Pay.lean ====
/-
  What one block computes, element by element.
-/
module

public import proofs.«01_k».proof.Proof.Run
public import proofs.«01_k».proof.Proof.Spec

@[expose] public section

noncomputable section

namespace Cert.Proof.IdealRun

open Cert.KernelIdeal Cert.KernelIdeal.Gen
open Idealize.ShloMosaic Cert.Proof.Loss

theorem no_floor_eq (φ : FTy) : (Named.named (F := Ideal) κ "no_floor" (φ := .f32) 0x006CE3EE#32 : EReal) = ⊥ := rfl

/-- The negative losses of a block, summed down its columns. -/
theorem pay18_at (x : Vec Ideal S1000x80 .f32) (acc : Vec Ideal S1x80 .f32) (k : Fin 80) :
    k0_pay18 x acc (ix2 0 k) = acc (ix2 0 k) + ∑ r : Fin 1000, fneg (x (ix2 r k)) := by
  pointwise [k0_pay18, k0_pay17, k0_pay13, k0_pay16, k0_pay15, k0_pay14]
  try simp only [one_mul]
  rfl

theorem pay26_at (x : Vec Ideal S1000x80 .f32) (r : Fin 1000) :
    k0_pay26 (k0_pay15 x) (k0_pay23 x) (k0_pay24 x) (ix2 r 0) = av (x (ix2 r 0)) := by
  pointwise [k0_pay26, k0_pay23, k0_pay24, k0_pay13, k0_pay16, k0_pay15, k0_pay14]
  rfl

theorem pay27_at (x : Vec Ideal S1000x80 .f32) (r : Fin 1000) : k0_pay27 (k0_pay22 x) (ix2 r 0) = bv (x (ix2 r 0)) := by
  pointwise [k0_pay27, k0_pay22, k0_pay17, k0_pay13, k0_pay16, k0_pay15, k0_pay14]
  rfl

/-- What a block takes off the first class's negative losses: its rows that lie in a box. -/
theorem pay25_at (x : Vec Ideal S1000x80 .f32) (ib : Vec Ideal S1000x128 .i32) (acc : Vec Ideal S1x1 .f32) :
    k0_pay25 k0_pay13 (k0_pay21 ib) (k0_pay22 x) acc (ix2 0 0)
      = acc (ix2 0 0) + ∑ r : Fin 1000, if 0 < ∑ g : Fin 128, (FloatOps.sitofp (F := Ideal) FTy.f32 (ib (ix2 r g)) : EReal) then bv (x (ix2 r 0)) else 0 := by
  pointwise [k0_pay25, k0_pay21, k0_pay22, k0_pay19, k0_pay17, k0_pay13, k0_pay16, k0_pay15, k0_pay14]
  rfl

theorem pay7_at (sc : Vec Ideal S1000x80 .f32) (oh : Vec Ideal S80x128 .f32) (ib : Vec Ideal S1000x128 .i32) (r : Fin 1000) (g : Fin 128) :
    k0_pay7 (k0_pay20 ib) (k0_pay28 (k0_pay19 ib) sc oh) (ix2 r g)
      = Scalar.select (IntOp.cmpi CmpIPredicate.sgt (ib (ix2 r g)) 0#32)
          (Ideal.log ((∑ k : Fin 80, sc (ix2 r k) * oh (ix2 k g)) * (FloatOps.sitofp (F := Ideal) FTy.f32 (ib (ix2 r g)) : EReal))) 1 := by
  pointwise [k0_pay7, k0_pay20, k0_pay28, k0_pay19]
  have e : (Named.named (F := Ideal) κ "no_floor" (φ := .f32) 7136238#32 : EReal) = ⊥ := rfl
  rw [e, max_eq_left bot_le]

theorem pay29_at (sc : Vec Ideal S1000x80 .f32) (oh : Vec Ideal S80x128 .f32) (ib : Vec Ideal S1000x128 .i32) (acc : Vec Ideal S1x128 .f32) (g : Fin 128) :
    k0_pay29 (k0_pay19 ib) sc oh acc (ix2 0 g)
      = max (acc (ix2 0 g)) (Finset.fold max ⊥ (fun r : Fin 1000 => (∑ k : Fin 80, sc (ix2 r k) * oh (ix2 k g)) * (FloatOps.sitofp (F := Ideal) FTy.f32 (ib (ix2 r g)) : EReal)) Finset.univ) := by
  pointwise [k0_pay29, k0_pay28, k0_pay19]
  rw [← ofBits_bot]

/-- A weight, from the logarithm kept of its alignment and the column's power; minus one where there is none. -/
def pwOf (la cf gi : EReal) : EReal :=
  if la < Ideal.ofBits FTy.f32 0x3F000000#32 then Ideal.exp (cf * la) * gi else Ideal.ofBits FTy.f32 0xBF800000#32

theorem pay9_at (gi : Vec Ideal S1000x80 .f32) (oh : Vec Ideal S80x128 .f32) (la : Vec Ideal S1000x128 .f32) (cf : Vec Ideal S1x128 .f32) (r : Fin 1000) (g : Fin 128) :
    k0_pay9 gi oh la cf (ix2 r g) = pwOf (la (ix2 r g)) (cf (ix2 0 g)) (∑ k : Fin 80, gi (ix2 r k) * oh (ix2 k g)) := by
  pointwise [k0_pay9, k0_pay8]
  rfl

theorem pay10_at (gi : Vec Ideal S1000x80 .f32) (oh : Vec Ideal S80x128 .f32) (la : Vec Ideal S1000x128 .f32) (cf cm : Vec Ideal S1x128 .f32) (g : Fin 128) :
    k0_pay10 gi oh la cf cm (ix2 0 g)
      = max (cm (ix2 0 g)) (Finset.fold max ⊥ (fun r : Fin 1000 => pwOf (la (ix2 r g)) (cf (ix2 0 g)) (∑ k : Fin 80, gi (ix2 r k) * oh (ix2 k g))) Finset.univ) := by
  pointwise [k0_pay8, k0_pay10]
  rw [← ofBits_bot]
  rfl

theorem pay33_at (pw : Vec Ideal S1000x128 .f32) (cm : Vec Ideal S1x128 .f32) (ab : Vec Ideal S1000x2 .f32) (acc : Vec Ideal S2x128 .f32) (j : Fin 2) (g : Fin 128) :
    k0_pay33 pw cm ab acc (ix2 j g) = acc (ix2 j g) + ∑ r : Fin 1000, ab (ix2 r j) * u2 (pw (ix2 r g)) (cm (ix2 0 g)) := by
  pointwise [k0_pay33, k0_pay31, k0_pay30]
  refine congrArg (acc (ix2 j g) + ·) (Finset.sum_congr rfl fun r _ => ?_)
  unfold u2 tv lo up
  split_ifs
  · rfl
  · rw [zero_mul]

theorem pay11_at (pw : Vec Ideal S1000x128 .f32) (cm : Vec Ideal S1x128 .f32) (ab : Vec Ideal S1000x2 .f32) (acc : Vec Ideal S2x128 .f32) (j : Fin 2) (g : Fin 128) :
    k0_pay11 (k0_pay32 pw cm) ab acc (constant S2x128 .f32 0x00000000#32) (ix2 j g)
      = acc (ix2 j g) + ∑ r : Fin 1000, ab (ix2 r j) * wv (pw (ix2 r g)) (cm (ix2 0 g)) := by
  pointwise [k0_pay11, k0_pay32, k0_pay31, k0_pay30]
  refine congrArg (acc (ix2 j g) + ·) (Finset.sum_congr rfl fun r _ => ?_)
  unfold wv tv lo up
  split_ifs <;> rfl

theorem pay12_at (a : Vec Ideal S1x80 .f32) (b d : Vec Ideal S1x128 .f32) (e : Vec Ideal S1x1 .f32) :
    k0_pay12 a b d e (ix2 0 0)
      = Ideal.ofBits FTy.f32 0x3F400000#32 * (∑ k : Fin 80, a (ix2 0 k) + e (ix2 0 0))
        - Ideal.ofBits FTy.f32 0x3E800000#32 * (∑ g : Fin 128, b (ix2 0 g) + ∑ g : Fin 128, d (ix2 0 g)) := by
  pointwise [k0_pay12]

theorem pay1_at (g : Fin 128) : (k0_pay1 (F := Ideal)) (ix2 0 g) = (0 : EReal) := by pointwise [k0_pay1]
theorem pay2_at (g : Fin 128) : (k0_pay2 (F := Ideal)) (ix2 0 g) = (0 : EReal) := by pointwise [k0_pay2]
theorem pay3_at (k : Fin 80) : (k0_pay3 (F := Ideal)) (ix2 0 k) = (0 : EReal) := by pointwise [k0_pay3]
theorem pay4_at : (k0_pay4 (F := Ideal)) (ix2 0 0) = (0 : EReal) := by pointwise [k0_pay4]
theorem pay5_at (j : Fin 2) (g : Fin 128) : (k0_pay5 (F := Ideal)) (ix2 j g) = (0 : EReal) := by pointwise [k0_pay5]
theorem pay6_at (j : Fin 2) (g : Fin 128) : (k0_pay6 (F := Ideal)) (ix2 j g) = (0 : EReal) := by pointwise [k0_pay6]

end Cert.Proof.IdealRun

end
-- ==== Proof.Traj.lean ====
/-
  What the scratch arrays hold from point to point: sums, maxima and rows of the whole arrays.
-/
module

public import proofs.«01_k».proof.Proof.Blocks
public import proofs.«01_k».proof.Proof.Pay

@[expose] public section

noncomputable section

namespace Cert.Proof.IdealRun

open Cert.KernelIdeal Cert.KernelIdeal.Gen
open Idealize.ShloMosaic Cert.Proof.Loss

variable (m : (ℓ : Loc nD τ sig) → Buf (Elt Ideal) ℓ) (c : Dev nD)

/-- The arrays by row number. -/
def lgN (n : ℕ) (k : Fin 80) : EReal := gLg m c (ix2 (rw' n) k)
def scN (n : ℕ) (k : Fin 80) : EReal := gSc m c (ix2 (rw' n) k)
def giN (n : ℕ) (k : Fin 80) : EReal := gGi m c (ix2 (rw' n) k)
def ibB (n : ℕ) (g : Fin 128) : BitVec 32 := gIb m c (ix2 (rw' n) g)
def ibF (n : ℕ) (g : Fin 128) : EReal := FloatOps.sitofp (F := Ideal) FTy.f32 (ibB m c n g)
/-- One where the column's label is the class. -/
def ohv (k : Fin 80) (g : Fin 128) : EReal := if gLab m c (ix1 g) = BitVec.ofNat 32 k.val then 1 else 0
/-- The alignment of a row with a column. -/
def alN (n : ℕ) (g : Fin 128) : EReal := (∑ k : Fin 80, scN m c n k * ohv m c k g) * ibF m c n g
/-- Its logarithm in the column's boxes, one outside. -/
def laN (n : ℕ) (g : Fin 128) : EReal := Scalar.select (IntOp.cmpi CmpIPredicate.sgt (ibB m c n g) 0#32) (Ideal.log (alN m c n g)) 1
/-- The largest alignment among the first rows, from zero. -/
def cfT (t : ℕ) (g : Fin 128) : EReal := max 0 ((Finset.range t).sup fun n => alN m c n g)
/-- The weight of a row for a column. -/
def pwN (n : ℕ) (g : Fin 128) : EReal := pwOf (laN m c n g) (cfT m c 20000 g) (∑ k : Fin 80, giN m c n k * ohv m c k g)
/-- The largest weight among the first rows, from zero. -/
def cmT (t : ℕ) (g : Fin 128) : EReal := max 0 ((Finset.range t).sup fun n => pwN m c n g)
/-- What a row takes off the first class's negative losses. -/
def corN (n : ℕ) : EReal := if 0 < ∑ g : Fin 128, ibF m c n g then bv (lgN m c n 0) else 0
/-- The two row factors. -/
def abN (n : ℕ) (j : Fin 2) : EReal := if j = 0 then av (lgN m c n 0) else bv (lgN m c n 0)

/-- The scratch contents once the three stages have taken up the first `a`, `b` and `d` rows. -/
structure Inv (a b d : ℕ) (st : St Ideal) : Prop where
  negs : ∀ k, st.negs (ix2 0 k) = ∑ n ∈ Finset.range a, fneg (lgN m c n k)
  cor : st.cor (ix2 0 0) = ∑ n ∈ Finset.range a, corN m c n
  conf : ∀ g, st.conf (ix2 0 g) = cfT m c a g
  la : ∀ (n : Fin 20000) (g : Fin 128), n.val < a → st.la (ix2 n g) = laN m c n.val g
  ab : ∀ (n : Fin 20000) (j : Fin 2), n.val < a → st.ab (ix2 n j) = abN m c n.val j
  cmax : ∀ g, st.cmax (ix2 0 g) = cmT m c b g
  pw : ∀ (n : Fin 20000) (g : Fin 128), n.val < b → st.pw (ix2 n g) = pwN m c n.val g
  acca : ∀ j g, st.acca (ix2 j g) = ∑ n ∈ Finset.range d, abN m c n j * u2 (pwN m c n g) (cmT m c 20000 g)
  accb : ∀ j g, st.accb (ix2 j g) = ∑ n ∈ Finset.range d, abN m c n j * wv (pwN m c n g) (cmT m c 20000 g)

/-- The first point's zeros. -/
theorem inv_zero (st : St Ideal) : Inv m c 0 0 0 (stepZ st) := by
  refine ⟨fun k => ?_, ?_, fun g => ?_, fun n g h => absurd h (by omega), fun n g h => absurd h (by omega), fun g => ?_,
    fun n g h => absurd h (by omega), fun j g => ?_, fun j g => ?_⟩
  · rw [Finset.range_zero, Finset.sum_empty]; exact pay3_at k
  · rw [Finset.range_zero, Finset.sum_empty]; exact pay4_at
  · unfold cfT; rw [Finset.range_zero, Finset.sup_empty, max_eq_left bot_le]; exact pay1_at g
  · unfold cmT; rw [Finset.range_zero, Finset.sup_empty, max_eq_left bot_le]; exact pay2_at g
  · rw [Finset.range_zero, Finset.sum_empty]; exact pay5_at j g
  · rw [Finset.range_zero, Finset.sum_empty]; exact pay6_at j g

/-- The first stage takes up a block of rows. -/
theorem inv_stepA (t : Fin cfg0.N) (ht : t.val < 20) (st : St Ideal) (b d : ℕ) (h : Inv m c (1000 * t.val) b d st) :
    Inv m c (1000 * t.val + 1000) b d (stepA (bOh m c t) (bLg m c t) (bSc m c t) (bIb m c t) (1000 * (t.val % 20)) st) := by
  have eo : 1000 * (t.val % 20) = 1000 * t.val := by omega
  rw [eo]
  have hsc : ∀ (r : Fin 1000) (g : Fin 128), (∑ k : Fin 80, bSc m c t (ix2 r k) * bOh m c t (ix2 k g)) * (FloatOps.sitofp (F := Ideal) FTy.f32 (bIb m c t (ix2 r g)) : EReal)
      = alN m c (1000 * t.val + r.val) g := by
    intro r g
    rw [bIb_at m c t ht]
    refine congrArg (fun a : EReal => a * ibF m c (1000 * t.val + r.val) g) ?_
    unfold scN ohv
    exact Finset.sum_congr rfl fun k _ => by rw [bSc_at m c t ht, bOh_at]
  refine ⟨fun k => ?_, ?_, fun g => ?_, fun n g hn => ?_, fun n j hn => ?_, h.cmax, h.pw, h.acca, h.accb⟩
  · refine (pay18_at _ _ k).trans ?_
    rw [← sum_block]
    exact congrArg₂ (fun a b : EReal => a + b) (h.negs k) (Finset.sum_congr rfl fun r _ => congrArg fneg (bLg_at m c t ht r k))
  · refine (pay25_at _ _ _).trans ?_
    rw [← sum_block]
    refine congrArg₂ (fun a b : EReal => a + b) h.cor (Finset.sum_congr rfl fun r _ => ?_)
    have es : (∑ g : Fin 128, (FloatOps.sitofp (F := Ideal) FTy.f32 (bIb m c t (ix2 r g)) : EReal)) = ∑ g : Fin 128, ibF m c (1000 * t.val + r.val) g :=
      Finset.sum_congr rfl fun g _ => by rw [bIb_at m c t ht]; rfl
    have el : bLg m c t (ix2 r 0) = lgN m c (1000 * t.val + r.val) 0 := bLg_at m c t ht r 0
    rw [es, el]; rfl
  · refine (pay29_at _ _ _ _ g).trans ?_
    rw [h.conf g, show (fun r : Fin 1000 => (∑ k : Fin 80, bSc m c t (ix2 r k) * bOh m c t (ix2 k g)) * (FloatOps.sitofp (F := Ideal) FTy.f32 (bIb m c t (ix2 r g)) : EReal))
      = fun r : Fin 1000 => alN m c (1000 * t.val + r.val) g from funext fun r => hsc r g]
    exact max_block (fun n => alN m c n g) 0 (1000 * t.val)
  · refine (put_at (N := 20000) (M := 128) (a := 1000) (b := 128) _ _ _ _ n g).trans ?_
    by_cases hb : n.val < 1000 * t.val
    · rw [dif_neg (by omega)]; exact h.la n g hb
    · rw [dif_pos ⟨⟨by omega, by omega⟩, ⟨by omega, by have := g.isLt; omega⟩⟩]
      refine (pay7_at _ _ _ _ _).trans ?_
      rw [hsc, bIb_at m c t ht]
      have e : 1000 * t.val + (n.val - 1000 * t.val) = n.val := by omega
      show Scalar.select (IntOp.cmpi CmpIPredicate.sgt (gIb m c (ix2 (rw' (1000 * t.val + (n.val - 1000 * t.val))) g)) 0#32) (Ideal.log (alN m c (1000 * t.val + (n.val - 1000 * t.val)) g)) 1 = _
      rw [e]; rfl
  · refine (put_at (N := 20000) (M := 2) (a := 1000) (b := 1) _ _ _ _ n j).trans ?_
    by_cases hb : n.val < 1000 * t.val
    · rw [dif_neg (by omega)]
      refine (put_at (N := 20000) (M := 2) (a := 1000) (b := 1) _ _ _ _ n j).trans ?_
      rw [dif_neg (by omega)]
      exact h.ab n j hb
    · have e : 1000 * t.val + (n.val - 1000 * t.val) = n.val := by omega
      by_cases hj : j = 0
      · subst hj
        rw [dif_neg (by rintro ⟨_, h1, _⟩; exact absurd h1 (by decide))]
        refine (put_at (N := 20000) (M := 2) (a := 1000) (b := 1) _ _ _ _ n 0).trans ?_
        rw [dif_pos ⟨⟨by omega, by omega⟩, ⟨by decide, by decide⟩⟩]
        refine (pay26_at _ ⟨n.val - 1000 * t.val, by omega⟩).trans ?_
        rw [bLg_at m c t ht]
        show av (gLg m c (ix2 (rw' (1000 * t.val + (n.val - 1000 * t.val))) 0)) = _
        rw [e]; rfl
      · have hj1 : j = 1 := by omega
        subst hj1
        rw [dif_pos ⟨⟨by omega, by omega⟩, ⟨by decide, by decide⟩⟩]
        refine (pay27_at _ ⟨n.val - 1000 * t.val, by omega⟩).trans ?_
        rw [bLg_at m c t ht]
        show bv (gLg m c (ix2 (rw' (1000 * t.val + (n.val - 1000 * t.val))) 0)) = _
        rw [e]; rfl

/-- The second stage takes up a block of rows. -/
theorem inv_stepB (t : Fin cfg0.N) (ht : 20 ≤ t.val) (ht' : t.val < 40) (st : St Ideal) (d : ℕ)
    (h : Inv m c 20000 (1000 * (t.val - 20)) d st) :
    Inv m c 20000 (1000 * (t.val - 20) + 1000) d (stepB (bOh m c t) (bGi m c t) (1000 * (t.val % 20)) (ho t.val) st) := by
  have eo : 1000 * (t.val % 20) = 1000 * (t.val - 20) := by omega
  have hpw : ∀ (r : Fin 1000) (g : Fin 128),
      pwOf (rows st.la (1000 * (t.val % 20)) (ho t.val) (ix2 r g)) (st.conf (ix2 0 g)) (∑ k : Fin 80, bGi m c t (ix2 r k) * bOh m c t (ix2 k g))
        = pwN m c (1000 * (t.val - 20) + r.val) g := by
    intro r g
    have hr := r.isLt
    unfold pwN
    rw [h.conf g]
    have e1 : rows st.la (1000 * (t.val % 20)) (ho t.val) (ix2 r g) = laN m c (1000 * (t.val - 20) + r.val) g :=
      (window_at (N := 20000) (M := 128) (a := 1000) (b := 128) _ _ _ r g ⟨1000 * (t.val - 20) + r.val, by omega⟩ g (by show _ = _ + _; rw [eo]) rfl).trans (h.la _ _ (by show 1000 * (t.val - 20) + r.val < 20000; omega))
    rw [e1]
    refine congrArg (pwOf _ _) ?_
    unfold giN ohv
    exact Finset.sum_congr rfl fun k _ => by rw [bGi_at m c t ht ht', bOh_at]
  refine ⟨h.negs, h.cor, h.conf, h.la, h.ab, fun g => ?_, fun n g hn => ?_, h.acca, h.accb⟩
  · refine (pay10_at _ _ _ _ _ g).trans ?_
    rw [h.cmax g]
    simp only [hpw]
    exact max_block (fun n => pwN m c n g) 0 (1000 * (t.val - 20))
  · refine (put_at (N := 20000) (M := 128) (a := 1000) (b := 128) _ _ _ _ n g).trans ?_
    by_cases hb : n.val < 1000 * (t.val - 20)
    · rw [dif_neg (by omega)]; exact h.pw n g hb
    · rw [dif_pos ⟨⟨by omega, by omega⟩, ⟨by omega, by have := g.isLt; omega⟩⟩]
      refine (pay9_at _ _ _ _ _ _).trans ?_
      refine (hpw _ _).trans ?_
      show pwN m c (1000 * (t.val - 20) + (n.val - 1000 * (t.val % 20))) g = _
      rw [show 1000 * (t.val - 20) + (n.val - 1000 * (t.val % 20)) = n.val from by omega]

/-- The third stage takes up a block of rows. -/
theorem inv_stepC (t : Fin cfg0.N) (ht : 40 ≤ t.val) (st : St Ideal) (h : Inv m c 20000 20000 (1000 * (t.val - 40)) st) :
    Inv m c 20000 20000 (1000 * (t.val - 40) + 1000) (stepC (1000 * (t.val % 20)) (ho t.val) st) := by
  have hN : t.val < 60 := t.isLt
  have eo : 1000 * (t.val % 20) = 1000 * (t.val - 40) := by omega
  have hpw : ∀ (r : Fin 1000) (g : Fin 128), rows st.pw (1000 * (t.val % 20)) (ho t.val) (ix2 r g) = pwN m c (1000 * (t.val - 40) + r.val) g := by
    intro r g
    have hr := r.isLt
    exact (window_at (N := 20000) (M := 128) (a := 1000) (b := 128) _ _ _ r g ⟨1000 * (t.val - 40) + r.val, by omega⟩ g (by show _ = _ + _; rw [eo]) rfl).trans (h.pw _ _ (by show 1000 * (t.val - 40) + r.val < 20000; omega))
  have hab : ∀ (r : Fin 1000) (j : Fin 2), rows2 st.ab (1000 * (t.val % 20)) (ho t.val) (ix2 r j) = abN m c (1000 * (t.val - 40) + r.val) j := by
    intro r j
    have hr := r.isLt
    exact (window_at (N := 20000) (M := 2) (a := 1000) (b := 2) _ _ _ r j ⟨1000 * (t.val - 40) + r.val, by omega⟩ j (by show _ = _ + _; rw [eo]) rfl).trans (h.ab _ _ (by show 1000 * (t.val - 40) + r.val < 20000; omega))
  refine ⟨h.negs, h.cor, h.conf, h.la, h.ab, h.cmax, h.pw, fun j g => ?_, fun j g => ?_⟩
  · refine (pay33_at _ _ _ _ j g).trans ?_
    rw [← sum_block]
    exact congrArg₂ (fun a b : EReal => a + b) (h.acca j g) (Finset.sum_congr rfl fun r _ => by rw [hpw, hab, h.cmax g])
  · refine (pay11_at _ _ _ _ j g).trans ?_
    rw [← sum_block]
    exact congrArg₂ (fun a b : EReal => a + b) (h.accb j g) (Finset.sum_congr rfl fun r _ => by rw [hpw, hab, h.cmax g])

theorem inv_A : ∀ k : ℕ, k < 20 → Inv m c (1000 * k + 1000) 0 0 (traj m c (k + 1))
  | 0, _ => by
    rw [traj_succ m c ⟨0, by decide⟩]
    exact inv_stepA m c ⟨0, by decide⟩ (by decide) _ 0 0 (inv_zero m c _)
  | k + 1, hk => by
    have h60 : k + 1 < 60 := by omega
    rw [traj_succ m c ⟨k + 1, h60⟩]
    unfold step
    rw [if_neg (by show ¬ (k + 1 = 0); omega), if_pos (by exact hk)]
    exact inv_stepA m c ⟨k + 1, h60⟩ hk _ 0 0 (inv_A k (by omega))

theorem inv_B : ∀ k : ℕ, k ≤ 20 → Inv m c 20000 (1000 * k) 0 (traj m c (20 + k))
  | 0, _ => inv_A m c 19 (by decide)
  | k + 1, hk => by
    have h60 : 20 + k < 60 := by omega
    rw [show 20 + (k + 1) = (20 + k) + 1 from rfl, traj_succ m c ⟨20 + k, h60⟩]
    unfold step
    rw [if_neg (by show ¬ (20 + k = 0); omega), if_neg (by show ¬ (20 + k < 20); omega), if_pos (by show 20 + k < 40; omega)]
    have e : (20 + k) - 20 = k := by omega
    have := inv_stepB m c ⟨20 + k, h60⟩ (by show 20 ≤ 20 + k; omega) (by show 20 + k < 40; omega) (traj m c (20 + k)) 0
      (by show Inv m c 20000 (1000 * ((20 + k) - 20)) 0 _; rw [e]; exact inv_B k (by omega))
    simp only [e] at this
    exact this

theorem inv_C : ∀ k : ℕ, k ≤ 20 → Inv m c 20000 20000 (1000 * k) (traj m c (40 + k))
  | 0, _ => inv_B m c 20 (by decide)
  | k + 1, hk => by
    have h60 : 40 + k < 60 := by omega
    rw [show 40 + (k + 1) = (40 + k) + 1 from rfl, traj_succ m c ⟨40 + k, h60⟩]
    unfold step
    rw [if_neg (by show ¬ (40 + k = 0); omega), if_neg (by show ¬ (40 + k < 20); omega), if_neg (by show ¬ (40 + k < 40); omega)]
    have e : (40 + k) - 40 = k := by omega
    have := inv_stepC m c ⟨40 + k, h60⟩ (by show 40 ≤ 40 + k; omega) (traj m c (40 + k))
      (by show Inv m c 20000 20000 (1000 * ((40 + k) - 40)) _; rw [e]; exact inv_C k (by omega))
    simp only [e] at this
    exact this

/-- The number the kernel leaves, before it is divided. -/
def total : EReal :=
  Ideal.ofBits FTy.f32 0x3F400000#32 * (∑ k : Fin 80, (∑ n ∈ Finset.range 20000, fneg (lgN m c n k)) + ∑ n ∈ Finset.range 20000, corN m c n)
    - Ideal.ofBits FTy.f32 0x3E800000#32
      * (∑ g : Fin 128, (∑ n ∈ Finset.range 20000, av (lgN m c n 0) * u2 (pwN m c n g) (cmT m c 20000 g))
        + ∑ g : Fin 128, (∑ n ∈ Finset.range 20000, bv (lgN m c n 0) * wv (pwN m c n g) (cmT m c 20000 g)))

theorem outv_at : outv m c (ix2 0 0) = total m c := by
  have h := inv_C m c 20 (le_refl _)
  refine (pay12_at _ _ _ _).trans ?_
  unfold total
  have e1 : ∀ k : Fin 80, (traj m c 60).negs (ix2 0 k) = ∑ n ∈ Finset.range 20000, fneg (lgN m c n k) := h.negs
  have e2 : (traj m c 60).cor (ix2 0 0) = ∑ n ∈ Finset.range 20000, corN m c n := h.cor
  have e3 : ∀ g : Fin 128, (VecWindow.window (traj m c 60).acca ![0, 0] S1x128.size inb_S2x128_S1x128_0_0 : Vec Ideal S1x128 .f32) (ix2 0 g)
      = ∑ n ∈ Finset.range 20000, av (lgN m c n 0) * u2 (pwN m c n g) (cmT m c 20000 g) := fun g =>
    (window_at (N := 2) (M := 128) (a := 1) (b := 128) _ _ _ 0 g 0 g rfl rfl).trans (h.acca 0 g)
  have e4 : ∀ g : Fin 128, (VecWindow.window (traj m c 60).accb ![1, 0] S1x128.size inb_S2x128_S1x128_1_0 : Vec Ideal S1x128 .f32) (ix2 0 g)
      = ∑ n ∈ Finset.range 20000, bv (lgN m c n 0) * wv (pwN m c n g) (cmT m c 20000 g) := fun g =>
    (window_at (N := 2) (M := 128) (a := 1) (b := 128) _ _ _ 0 g 1 g rfl rfl).trans (h.accb 1 g)
  rw [e2]
  simp only [e1, e3, e4]

end Cert.Proof.IdealRun

end
-- ==== Proof.Value.lean ====
/-
  What the kernel's result holds after the run.
-/
module

public import proofs.«01_k».proof.Proof.Traj

@[expose] public section

noncomputable section

namespace Cert.Proof.IdealRun

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The average the loss is divided by. -/
abbrev gN : Vec Ideal S_ .i32 := m ((c.tc : Thread nD τ).loc main_arg5)

/-- What the kernel's result holds at the end. -/
def result : Vec Ideal S_ .f32 := fun _ => Ideal.div (total m c) (FloatOps.sitofp (F := Ideal) FTy.f32 (gN m c ix0))

/-- The kernel's output array at the end: what the last point wrote. -/
theorem arrAt5 : (dats m 0 c).arrAt 5 (cfgs 0).N = outv m c := by
  refine (dats m 0 c).arrAt_eq_of_after_last 5 ⟨59, by decide⟩ (by decide +kernel) _ fun j => ?_
  rw [after0_5]
  rfl

theorem tail_v9 : Pipeline.afterTail₀ cfgs (dats m) 0 (V0 m) [hostOps1] c main_v9 = result m c := by
  unfold Pipeline.afterTail₀
  have h5 := (Pipeline.withArrays_arr (cfgs 0).spec winFacts0.arr_inj c (V0 m c) (fun w => (dats m 0 c).arrAt w (cfgs 0).N) 5).trans (arrAt5 m c)
  have hN := (Pipeline.withArrays_of_ne (cfgs 0).spec c (V0 m c) (fun w => (dats m 0 c).arrAt w (cfgs 0).N) main_arg5
    (by exact (by decide : ∀ w, Pipeline.arrRef spec0 w ≠ main_arg5))).trans (V_main_arg5 m c)
  generalize Pipeline.withArrays (cfgs 0).spec c (V0 m c) (fun w => (dats m 0 c).arrAt w (cfgs 0).N) = W at h5 hN ⊢
  funext j
  show StableHlo.after hostOps1 W (Proc.tc.devRef main_v9) j = _
  unfold hostOps1
  after_reads_at
  have e : j = ix0 := funext fun a => a.elim0
  have h5' : W (Proc.tc.devRef main_v5) (ix2 0 0) = total m c := (congrFun h5 (ix2 0 0)).trans (outv_at m c)
  rw [h5', hN, e]
  rfl

/-- The kernel's run: its result, and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(Pipeline.FramePost.rest_eq h.1.1 c main_v9 (by decide)).trans (tail_v9 m c), h.2.1 c⟩)
    (θ_run_and (run_main_quiescent m ρ) (frame m ρ))

end Cert.Proof.IdealRun

end
-- ==== Proof.Weight.lean ====
/-
  The clip's ends as real numbers, the clipped probability and the weights of a column.
-/
module

public import proofs.«01_k».proof.Proof.Spec
public import Idealize.ShloMosaic.Lib.IdealHost

@[expose] public section

noncomputable section

namespace Cert.Proof.Loss

open Idealize.ShloMosaic

/-- The clip's two ends as real numbers. -/
def rl : ℝ := 13743895 / 2 ^ 37
def ru : ℝ := 16775538 / 2 ^ 24

theorem lo_eq : lo = (rl : EReal) := by
  unfold lo rl
  simp [Ideal.ofBits, Ideal.ieee]
  rw [← EReal.coe_mul]
  norm_num
theorem up_eq : up = (ru : EReal) := by
  unfold up ru
  simp [Ideal.ofBits, Ideal.ieee]
  rw [← EReal.coe_mul]
  norm_num
theorem rl_pos : 0 < rl := by unfold rl; norm_num
theorem rl_lt_ru : rl < ru := by unfold rl ru; norm_num
theorem ru_lt_one : ru < 1 := by unfold ru; norm_num
theorem half_eq : Ideal.ofBits FTy.f32 0x3F000000#32 = ((1 / 2 : ℝ) : EReal) := by
  simp [Ideal.ofBits, Ideal.ieee]
  rw [← EReal.coe_mul]
  norm_num
theorem neg_one_eq : Ideal.ofBits FTy.f32 0xBF800000#32 = ((-1 : ℝ) : EReal) := by
  simp [Ideal.ofBits, Ideal.ieee]
  rw [← EReal.coe_mul, ← EReal.coe_one]
  norm_num
theorem two_eq : Ideal.ofBits FTy.f32 0x40000000#32 = ((2 : ℝ) : EReal) := by
  simp [Ideal.ofBits, Ideal.ieee]
  rw [← EReal.coe_mul]
  norm_num
theorem c34_eq : Ideal.ofBits FTy.f32 0x3F400000#32 = ((3 / 4 : ℝ) : EReal) := by
  simp [Ideal.ofBits, Ideal.ieee]
  rw [← EReal.coe_mul]
  norm_num
theorem c14_eq : Ideal.ofBits FTy.f32 0x3E800000#32 = ((1 / 4 : ℝ) : EReal) := by
  simp [Ideal.ofBits, Ideal.ieee]
  rw [← EReal.coe_mul]
  norm_num

/-- A clipped value is a real number between the clip's ends. -/
theorem clip_real (y : EReal) : ∃ r : ℝ, min up (max lo y) = (r : EReal) ∧ rl ≤ r ∧ r ≤ ru := by
  rw [lo_eq, up_eq]
  have h1 : ((rl : ℝ) : EReal) ≤ min (ru : EReal) (max (rl : EReal) y) :=
    le_min (EReal.coe_le_coe_iff.2 rl_lt_ru.le) (le_max_left _ _)
  have h2 : min (ru : EReal) (max (rl : EReal) y) ≤ ru := min_le_left _ _
  generalize min (ru : EReal) (max (rl : EReal) y) = z at h1 h2
  induction z with
  | bot => exact absurd (le_bot_iff.1 h1) (EReal.coe_ne_bot _)
  | top => exact absurd (top_le_iff.1 h2) (EReal.coe_ne_top _)
  | coe r => exact ⟨r, rfl, EReal.coe_le_coe_iff.1 h1, EReal.coe_le_coe_iff.1 h2⟩

theorem log_pos {r : ℝ} (h : 0 < r) : Ideal.log (r : EReal) = (Real.log r : EReal) := by
  rw [Ideal.log_coe, if_neg (not_le.2 h)]

/-- A power with a real exponent is the exponential of the exponent times the logarithm. -/
theorem exp_mul_log (s c : ℝ) (hs : 0 ≤ s) (hc : 0 ≤ c) :
    Ideal.exp ((c : EReal) * Ideal.log (s : EReal)) = Ideal.pow (s : EReal) (c : EReal) := by
  rw [Ideal.pow_coe_coe]
  rcases hs.eq_or_lt with rfl | hs
  · rw [Ideal.log_coe, if_pos le_rfl]
    rcases hc.eq_or_lt with rfl | hc
    · rw [EReal.coe_zero, zero_mul, ← EReal.coe_zero, Ideal.exp_coe, Real.exp_zero]
      exact congrArg _ (Real.rpow_zero 0).symm
    · rw [EReal.coe_mul_bot_of_pos hc, Ideal.exp_bot, ← EReal.coe_zero]
      exact congrArg _ (Real.zero_rpow hc.ne').symm
  · rw [log_pos hs, ← EReal.coe_mul, Ideal.exp_coe]
    refine congrArg _ ?_
    show _ = s ^ c
    rw [Real.rpow_def_of_pos hs, mul_comm]

theorem pow_two (r : ℝ) : Ideal.pow (r : EReal) (Ideal.ofBits FTy.f32 0x40000000#32) = ((r * r : ℝ) : EReal) := by
  rw [two_eq, Ideal.pow_coe_coe]
  refine congrArg _ ?_
  show r ^ (2 : ℝ) = _
  rw [Real.rpow_two, sq]

/-! ## A column's weights -/

section Col
variable (s q : Fin 20000 → ℝ) (M : Fin 20000 → Prop)

open Classical in
/-- The column's largest alignment. -/
def cf : EReal := Finset.fold max ⊥ (fun n => if M n then (s n : EReal) else 0) Finset.univ
open Classical in
/-- A row's weight. -/
def pw (n : Fin 20000) : EReal := if M n then Ideal.pow (s n) (cf s M) * (q n : EReal) else 0
/-- The column's largest weight. -/
def cm : EReal := Finset.fold max ⊥ (fun n => pw s q M n) Finset.univ
/-- A row's weight over the column's largest, clipped. -/
def tt (n : Fin 20000) : EReal := min up (max lo (Ideal.div (pw s q M n + lo) (cm s q M + lo)))

variable (h0 : ∀ n, 0 ≤ s n) (h1 : ∀ n, s n ≤ 1) (hq : ∀ n, 0 ≤ q n)

theorem fold_real (f : Fin 20000 → EReal) (hf : ∀ n, 0 ≤ f n) (ht : ∀ n, f n ≠ ⊤) :
    ∃ r : ℝ, Finset.fold max ⊥ f Finset.univ = (r : EReal) ∧ 0 ≤ r := by
  have a : (0 : EReal) ≤ Finset.fold max ⊥ f Finset.univ := Finset.le_fold_max _ |>.2 (Or.inr ⟨0, Finset.mem_univ _, hf 0⟩)
  have b : Finset.fold max ⊥ f Finset.univ < ⊤ := Finset.fold_max_lt _ |>.2 ⟨bot_lt_top, fun n _ => (ht n).lt_top⟩
  generalize Finset.fold max ⊥ f Finset.univ = z at a b
  induction z with
  | bot => exact absurd (le_bot_iff.1 a) EReal.zero_ne_bot
  | top => exact absurd b (lt_irrefl _)
  | coe r => exact ⟨r, rfl, EReal.coe_nonneg.1 a⟩

include h0 in
theorem cf_real : ∃ r : ℝ, cf s M = (r : EReal) ∧ 0 ≤ r := by
  classical
  refine fold_real _ (fun n => ?_) (fun n => ?_)
  · split
    · exact EReal.coe_nonneg.2 (h0 n)
    · exact le_rfl
  · split
    · exact EReal.coe_ne_top _
    · exact EReal.zero_ne_top

include h0 hq in
theorem pw_real (n : Fin 20000) : ∃ r : ℝ, pw s q M n = (r : EReal) ∧ 0 ≤ r := by
  classical
  obtain ⟨c, hc, hc0⟩ := cf_real s M h0
  unfold pw
  split
  · rw [hc, Ideal.pow_coe_coe, ← EReal.coe_mul]
    exact ⟨_, rfl, mul_nonneg (Real.rpow_nonneg (h0 n) c) (hq n)⟩
  · exact ⟨0, EReal.coe_zero.symm, le_rfl⟩

include h0 hq in
theorem cm_real : ∃ r : ℝ, cm s q M = (r : EReal) ∧ 0 ≤ r :=
  fold_real _ (fun n => by obtain ⟨r, e, h⟩ := pw_real s q M h0 hq n; rw [e]; exact EReal.coe_nonneg.2 h)
    (fun n => by obtain ⟨r, e, h⟩ := pw_real s q M h0 hq n; rw [e]; exact EReal.coe_ne_top _)

include h0 hq in
/-- The quotient is positive. -/
theorem quot_pos (n : Fin 20000) : 0 < Ideal.div (pw s q M n + lo) (cm s q M + lo) := by
  obtain ⟨p, hp, hp0⟩ := pw_real s q M h0 hq n
  obtain ⟨c, hc, hc0⟩ := cm_real s q M h0 hq
  rw [hp, hc, lo_eq, ← EReal.coe_add, ← EReal.coe_add, Ideal.div_coe (by have := rl_pos; linarith), ← EReal.coe_mul]
  have := rl_pos
  exact EReal.coe_pos.2 (by positivity)

include h0 hq in
/-- Dividing by the column's largest is multiplying by its reciprocal. -/
theorem tv_eq (n : Fin 20000) : tv (pw s q M n) (cm s q M) = tt s q M n := by
  obtain ⟨c, hc, hc0⟩ := cm_real s q M h0 hq
  unfold tv tt
  rw [Ideal.mul_one_div]
  rw [hc, lo_eq, ← EReal.coe_add]
  have := rl_pos
  exact EReal.coe_ne_zero.2 (by linarith)

theorem tt_real (n : Fin 20000) : ∃ r : ℝ, tt s q M n = (r : EReal) ∧ rl ≤ r ∧ r ≤ ru := clip_real _

end Col

end Cert.Proof.Loss

end
-- ==== Proof.Row.lean ====
/-
  A row's clipped probability and its loss factors as real numbers.
-/
module

public import proofs.«01_k».proof.Proof.Weight

@[expose] public section

noncomputable section

namespace Cert.Proof.Loss

open Idealize.ShloMosaic

/-- The clipped probability as a real number. -/
def be (x : EReal) : ℝ := (bp x).toReal

theorem bp_eq (x : EReal) : bp x = (be x : EReal) ∧ rl ≤ be x ∧ be x ≤ ru := by
  obtain ⟨r, e, h⟩ := clip_real (Ideal.logistic x)
  have e' : bp x = r := e
  unfold be
  rw [e', EReal.toReal_coe]
  exact ⟨rfl, h⟩

theorem be_pos (x : EReal) : 0 < be x := rl_pos.trans_le (bp_eq x).2.1
theorem be_lt (x : EReal) : be x < 1 := (bp_eq x).2.2.trans_lt ru_lt_one

theorem one_sub_bp (x : EReal) : 1 - bp x = ((1 - be x : ℝ) : EReal) := by
  rw [(bp_eq x).1, ← EReal.coe_one, ← EReal.coe_sub]

theorem log_one_sub (x : EReal) : Ideal.log (1 - bp x) = (Real.log (1 - be x) : EReal) := by
  rw [one_sub_bp, log_pos (by have := be_lt x; linarith)]

theorem log_bp (x : EReal) : Ideal.log (bp x) = (Real.log (be x) : EReal) := by
  rw [(bp_eq x).1, log_pos (be_pos x)]

/-- A negative's loss. -/
def ph (x : EReal) : ℝ := -Real.log (1 - be x) * (be x * be x)

theorem fneg_eq (x : EReal) : fneg x = (ph x : EReal) := by
  unfold fneg ph
  rw [log_one_sub, (bp_eq x).1, ← EReal.coe_zero, ← EReal.coe_sub, ← EReal.coe_mul, ← EReal.coe_mul]
  exact congrArg _ (by ring)

theorem bv_eq (x : EReal) : bv x = ((-ph x : ℝ) : EReal) := by
  unfold bv
  rw [fneg_eq, ← EReal.coe_zero, ← EReal.coe_sub, zero_sub]

/-- The sum of the logit and the complement's logarithm, kept between the logarithms of the clip's ends, is the logarithm of the clipped probability. -/
theorem log_clip (x : EReal) : min (Ideal.log up) (max (Ideal.log lo) (x + Ideal.log (1 - bp x))) = (Real.log (be x) : EReal) := by
  have hl := rl_pos
  have hlu := rl_lt_ru
  have hu := ru_lt_one
  have hll : Real.log rl ≤ Real.log ru := Real.log_le_log hl hlu.le
  rw [log_one_sub, up_eq, lo_eq, log_pos (hl.trans hlu), log_pos hl]
  induction x with
  | bot =>
    have hb : be ⊥ = rl := by
      unfold be bp
      rw [Ideal.logistic_bot, lo_eq, up_eq, max_eq_left (EReal.coe_nonneg.2 hl.le), min_eq_right (EReal.coe_le_coe_iff.2 hlu.le), EReal.toReal_coe]
    rw [EReal.bot_add, max_eq_left bot_le, min_eq_right (EReal.coe_le_coe_iff.2 hll), hb]
  | top =>
    have hb : be ⊤ = ru := by
      unfold be bp
      rw [Ideal.logistic_top, lo_eq, up_eq, max_eq_right (by rw [← EReal.coe_one]; exact EReal.coe_le_coe_iff.2 (hlu.trans hu).le),
        min_eq_left (by rw [← EReal.coe_one]; exact EReal.coe_le_coe_iff.2 hu.le), EReal.toReal_coe]
    rw [EReal.top_add_coe, max_eq_right le_top, min_eq_left le_top, hb]
  | coe r =>
    have hb : be r = min ru (max rl (1 + Real.exp (-r))⁻¹) := by
      unfold be bp
      rw [Ideal.logistic_coe, lo_eq, up_eq, ← EReal.coe_strictMono.monotone.map_max, ← EReal.coe_strictMono.monotone.map_min, EReal.toReal_coe]
    rw [← EReal.coe_add, ← EReal.coe_strictMono.monotone.map_max, ← EReal.coe_strictMono.monotone.map_min]
    refine congrArg _ ?_
    set p : ℝ := (1 + Real.exp (-r))⁻¹ with hp
    have he := Real.exp_pos (-r)
    have hp0 : 0 < p := by positivity
    have hq : 1 - p = Real.exp (-r) * p := by
      rw [hp]; field_simp; ring
    have hp1 : 0 < 1 - p := by rw [hq]; positivity
    have hr : r + Real.log (1 - p) = Real.log p := by
      rw [hq, Real.log_mul he.ne' hp0.ne', Real.log_exp]; ring
    rcases le_or_gt p rl with h | h
    · have hb' : be r = rl := by rw [hb, max_eq_left h, min_eq_right hlu.le]
      have a : Real.log p ≤ Real.log rl := Real.log_le_log hp0 h
      have b : Real.log (1 - rl) ≤ Real.log (1 - p) := Real.log_le_log (by linarith) (by linarith)
      rw [hb', max_eq_left (by linarith), min_eq_right hll]
    · rcases le_or_gt p ru with h' | h'
      · have hb' : be r = p := by rw [hb, max_eq_right h.le, min_eq_right h']
        rw [hb', hr, max_eq_right (Real.log_le_log hl h.le), min_eq_right (Real.log_le_log hp0 h')]
      · have hb' : be r = ru := by rw [hb, max_eq_right h.le, min_eq_left h'.le]
        have a : Real.log ru ≤ Real.log p := Real.log_le_log (hl.trans hlu) h'.le
        have b : Real.log (1 - p) ≤ Real.log (1 - ru) := Real.log_le_log hp1 (by linarith)
        rw [hb', max_eq_right (by linarith), min_eq_left (by linarith)]

theorem av_eq (x : EReal) : av x = ((Real.log (be x) * ((1 - be x) * (1 - be x)) : ℝ) : EReal) := by
  unfold av
  rw [log_clip, one_sub_bp, ← EReal.coe_mul, ← EReal.coe_mul]
  exact congrArg _ (by ring)

/-- A sum of real numbers taken among the extended reals. -/
theorem coe_sum {ι : Type} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]

end Cert.Proof.Loss

end
-- ==== Proof.KerW.lean ====
/-
  The kernel's weights and losses over drawn arguments.
-/
module

public import proofs.«01_k».proof.Proof.Value
public import proofs.«01_k».proof.Proof.Row

@[expose] public section

noncomputable section

namespace Cert.Proof.IdealRun

open Cert.KernelIdeal Cert.KernelIdeal.Gen
open Idealize.ShloMosaic Idealize.ShloMosaic.TcCoe Cert.Proof.Loss

variable (m : (ℓ : Loc nD τ sig) → Buf (Elt Ideal) ℓ) (c : Dev nD)
variable (σ γ : Fin 20000 → Fin 80 → ℝ) (cl : Fin 128 → Fin 80) (M : Fin 20000 → Fin 128 → Prop)

open Classical in
/-- The arguments as drawn: scores and overlaps real numbers, the scores at most one, the indicators zero or one, the labels classes. -/
structure Drawn : Prop where
  sc : ∀ n k, gSc m c (ix2 n k) = (σ n k : EReal)
  gi : ∀ n k, gGi m c (ix2 n k) = (γ n k : EReal)
  ib : ∀ n g, gIb m c (ix2 n g) = if M n g then 1#32 else 0#32
  lab : ∀ g, gLab m c (ix1 g) = BitVec.ofNat 32 (cl g).val
  s0 : ∀ n k, 0 ≤ σ n k
  s1 : ∀ n k, σ n k ≤ 1
  q0 : ∀ n k, 0 ≤ γ n k

variable {m c σ γ cl M}
variable (D : Drawn m c σ γ cl M)

theorem rw_val (n : Fin 20000) : rw' n.val = n := Fin.ext (Nat.mod_eq_of_lt n.isLt)

theorem sitofp_one : (FloatOps.sitofp (F := Ideal) FTy.f32 (1#32) : EReal) = 1 := by
  show (((1#32 : BitVec 32).toInt : ℝ) : EReal) = 1
  rw [show (1#32 : BitVec 32).toInt = 1 from by decide, Int.cast_one, EReal.coe_one]
theorem sitofp_zero : (FloatOps.sitofp (F := Ideal) FTy.f32 (0#32) : EReal) = 0 := by
  show (((0#32 : BitVec 32).toInt : ℝ) : EReal) = 0
  rw [show (0#32 : BitVec 32).toInt = 0 from by decide, Int.cast_zero, EReal.coe_zero]

include D

open Classical in
theorem ibF_eq (n : Fin 20000) (g : Fin 128) : ibF m c n.val g = if M n g then 1 else 0 := by
  unfold ibF ibB
  rw [rw_val, D.ib]
  split
  · exact sitofp_one
  · exact sitofp_zero

/-- Summing a row against a label's column of ones picks the label's element. -/
theorem pick (x : Fin 80 → EReal) (g : Fin 128) : ∑ k : Fin 80, x k * ohv m c k g = x (cl g) := by
  have h : ∀ k, ohv m c k g = if cl g = k then 1 else 0 := fun k => by
    unfold ohv
    rw [D.lab g]
    exact if_congr ((by decide : ∀ a b : Fin 80, BitVec.ofNat 32 a.val = BitVec.ofNat 32 b.val ↔ a = b) (cl g) k) rfl rfl
  rw [Finset.sum_eq_single (cl g) (fun k _ hk => by rw [h, if_neg fun e => hk e.symm, mul_zero]) (fun h => absurd (Finset.mem_univ _) h), h, if_pos rfl, mul_one]

open Classical in
theorem alN_eq (n : Fin 20000) (g : Fin 128) : alN m c n.val g = if M n g then (σ n (cl g) : EReal) else 0 := by
  unfold alN
  rw [pick D (fun k => scN m c n.val k) g, ibF_eq D]
  show gSc m c (ix2 (rw' n.val) (cl g)) * _ = _
  rw [rw_val, D.sc]
  split
  · rw [mul_one]
  · rw [mul_zero]

theorem cfT_eq (g : Fin 128) : cfT m c 20000 g = cf (fun n => σ n (cl g)) (fun n => M n g) := by
  classical
  refine eq_of_forall_ge_iff fun z => ?_
  unfold cfT cf
  simp only [max_le_iff, Finset.sup_le_iff, Finset.fold_max_le, Finset.mem_range, Finset.mem_univ, true_implies, bot_le, true_and]
  constructor
  · rintro ⟨_, h⟩ n
    rw [← alN_eq D]
    exact h n.val n.isLt
  · intro h
    refine ⟨(?_ : (0 : EReal) ≤ _).trans (h 0), fun n hn => ?_⟩
    · split
      · exact EReal.coe_nonneg.2 (D.s0 _ _)
      · exact le_rfl
    · have := h ⟨n, hn⟩
      rw [← alN_eq D ⟨n, hn⟩ g] at this
      exact this

open Classical in
theorem laN_eq (n : Fin 20000) (g : Fin 128) : laN m c n.val g = if M n g then Ideal.log (σ n (cl g) : EReal) else 1 := by
  have e : ibB m c n.val g = if M n g then 1#32 else 0#32 := by
    unfold ibB
    rw [rw_val, D.ib]
  unfold laN
  rw [e, alN_eq D]
  by_cases h : M n g
  · rw [if_pos h, if_pos h, if_pos h, show IntOp.cmpi CmpIPredicate.sgt 1#32 0#32 = 1#1 from by decide]
    rfl
  · rw [if_neg h, if_neg h, if_neg h, show IntOp.cmpi CmpIPredicate.sgt 0#32 0#32 = 0#1 from by decide]
    rfl

open Classical in
theorem pwN_eq (n : Fin 20000) (g : Fin 128) :
    pwN m c n.val g = if M n g then pw (fun n => σ n (cl g)) (fun n => γ n (cl g)) (fun n => M n g) n else ((-1 : ℝ) : EReal) := by
  have e : giN m c n.val (cl g) = (γ n (cl g) : EReal) := by
    unfold giN
    rw [rw_val, D.gi]
  unfold pwN pwOf
  rw [pick D (fun k => giN m c n.val k) g, e, cfT_eq D, laN_eq D, half_eq, neg_one_eq]
  by_cases h : M n g
  · simp only [if_pos h]
    have hlt : Ideal.log (σ n (cl g) : EReal) < ((1 / 2 : ℝ) : EReal) := by
      rw [Ideal.log_coe]
      split
      · exact EReal.bot_lt_coe _
      · exact EReal.coe_lt_coe_iff.2 (lt_of_le_of_lt (Real.log_nonpos (D.s0 _ _) (D.s1 _ _)) (by norm_num))
    rw [if_pos hlt]
    unfold pw
    rw [if_pos h]
    obtain ⟨r, hr, hr0⟩ := cf_real (fun n => σ n (cl g)) (fun n => M n g) (fun n => D.s0 n (cl g))
    rw [hr, exp_mul_log _ _ (D.s0 _ _) hr0]
  · simp only [if_neg h]
    rw [if_neg]
    rw [← EReal.coe_one]
    exact not_lt.2 (EReal.coe_le_coe_iff.2 (by norm_num))

theorem cmT_eq (g : Fin 128) :
    cmT m c 20000 g = cm (fun n => σ n (cl g)) (fun n => γ n (cl g)) (fun n => M n g) := by
  classical
  have hp : ∀ n, 0 ≤ pw (fun n => σ n (cl g)) (fun n => γ n (cl g)) (fun n => M n g) n := fun n => by
    obtain ⟨r, e, h⟩ := pw_real (fun n => σ n (cl g)) (fun n => γ n (cl g)) (fun n => M n g) (fun n => D.s0 _ _) (fun n => D.q0 _ _) n
    rw [e]; exact EReal.coe_nonneg.2 h
  refine eq_of_forall_ge_iff fun z => ?_
  unfold cmT cm
  simp only [max_le_iff, Finset.sup_le_iff, Finset.fold_max_le, Finset.mem_range, Finset.mem_univ, true_implies, bot_le, true_and]
  constructor
  · rintro ⟨h0, h⟩ n
    have := h n.val n.isLt
    rw [pwN_eq D] at this
    by_cases hm : M n g
    · rwa [if_pos hm] at this
    · unfold pw
      rw [if_neg hm]; exact h0
  · intro h
    refine ⟨(hp 0).trans (h 0), fun n hn => ?_⟩
    have h' := h ⟨n, hn⟩
    have e := pwN_eq D ⟨n, hn⟩ g
    rw [show pwN m c n g = _ from e]
    split
    · exact h'
    · exact ((EReal.coe_le_coe_iff.2 (by norm_num : (-1 : ℝ) ≤ 0)).trans_eq EReal.coe_zero).trans ((hp _).trans h')

/-- A row's clipped weight for a column, as a real number. -/
theorem weight_cases (n : Fin 20000) (g : Fin 128) :
    (M n g → 0 ≤ pwN m c n.val g ∧ tv (pwN m c n.val g) (cmT m c 20000 g) = tt (fun n => σ n (cl g)) (fun n => γ n (cl g)) (fun n => M n g) n)
      ∧ (¬M n g → ¬0 ≤ pwN m c n.val g) := by
  constructor
  · intro h
    rw [pwN_eq D, if_pos h, cmT_eq D]
    obtain ⟨r, e, h⟩ := pw_real (fun n => σ n (cl g)) (fun n => γ n (cl g)) (fun n => M n g) (fun n => D.s0 _ _) (fun n => D.q0 _ _) n
    exact ⟨by rw [e]; exact EReal.coe_nonneg.2 h, tv_eq _ _ _ (fun n => D.s0 _ _) (fun n => D.q0 _ _) n⟩
  · intro h
    rw [pwN_eq D, if_neg h, ← EReal.coe_zero, EReal.coe_le_coe_iff]
    norm_num

end Cert.Proof.IdealRun

end
-- ==== Proof.KerTotal.lean ====
/-
  The kernel's total as a real number.
-/
module

public import proofs.«01_k».proof.Proof.KerW

@[expose] public section

noncomputable section

namespace Cert.Proof.Loss

/-- A row lies in a box of some column. -/
def inBox (M : Fin 20000 → Fin 128 → Prop) (n : Fin 20000) : Prop := by
  classical exact 0 < ∑ g : Fin 128, (if M n g then (1 : EReal) else 0)

/-- The clipped weight of a row for a column, as a real number. -/
def wt (σ γ : Fin 20000 → Fin 80 → ℝ) (cl : Fin 128 → Fin 80) (M : Fin 20000 → Fin 128 → Prop) (n : Fin 20000) (g : Fin 128) : ℝ :=
  (tt (fun n => σ n (cl g)) (fun n => γ n (cl g)) (fun n => M n g) n).toReal

theorem tt_eq (σ γ : Fin 20000 → Fin 80 → ℝ) (cl : Fin 128 → Fin 80) (M : Fin 20000 → Fin 128 → Prop) (n : Fin 20000) (g : Fin 128) :
    tt (fun n => σ n (cl g)) (fun n => γ n (cl g)) (fun n => M n g) n = (wt σ γ cl M n g : EReal) := by
  obtain ⟨r, e, _⟩ := tt_real (fun n => σ n (cl g)) (fun n => γ n (cl g)) (fun n => M n g) n
  unfold wt
  rw [e, EReal.toReal_coe]

open Classical in
/-- The kernel's total, over the logits, the weights and the boxes. -/
def kernelTotal (x : Fin 20000 → Fin 80 → EReal) (w : Fin 20000 → Fin 128 → ℝ) (M : Fin 20000 → Fin 128 → Prop) : ℝ :=
  3 / 4 * ((∑ k : Fin 80, ∑ n : Fin 20000, ph (x n k)) + ∑ n : Fin 20000, (if inBox M n then -ph (x n 0) else 0))
    - 1 / 4 * ((∑ g : Fin 128, ∑ n : Fin 20000,
          (Real.log (be (x n 0)) * ((1 - be (x n 0)) * (1 - be (x n 0)))) * (if M n g then w n g * w n g else 0))
      + ∑ g : Fin 128, ∑ n : Fin 20000, (-ph (x n 0)) * (if M n g then (1 - w n g) * (1 - w n g) else 0))

end Cert.Proof.Loss

namespace Cert.Proof.IdealRun

open Cert.KernelIdeal Cert.KernelIdeal.Gen
open Idealize.ShloMosaic Idealize.ShloMosaic.TcCoe Cert.Proof.Loss

variable {m : (ℓ : Loc nD τ sig) → Buf (Elt Ideal) ℓ} {c : Dev nD}
variable {σ γ : Fin 20000 → Fin 80 → ℝ} {cl : Fin 128 → Fin 80} {M : Fin 20000 → Fin 128 → Prop}
variable (D : Drawn m c σ γ cl M)

theorem lgN_eq (n : Fin 20000) (k : Fin 80) : lgN m c n.val k = gLg m c (ix2 n k) := by
  unfold lgN
  rw [rw_val]

include D

open Classical in
theorem corN_eq (n : Fin 20000) :
    corN m c n.val = ((if inBox M n then -ph (gLg m c (ix2 n 0)) else 0 : ℝ) : EReal) := by
  have hs : ∑ g : Fin 128, ibF m c n.val g = ∑ g : Fin 128, (if M n g then (1 : EReal) else 0) :=
    Finset.sum_congr rfl fun g _ => ibF_eq D n g
  unfold corN
  rw [hs, lgN_eq, bv_eq]
  by_cases h : inBox M n
  · rw [if_pos h]
    exact if_pos h
  · rw [if_neg h, EReal.coe_zero]
    exact if_neg h

open Classical in
theorem u2_eq (n : Fin 20000) (g : Fin 128) :
    u2 (pwN m c n.val g) (cmT m c 20000 g) = ((if M n g then wt σ γ cl M n g * wt σ γ cl M n g else 0 : ℝ) : EReal) := by
  obtain ⟨h1, h2⟩ := weight_cases D n g
  unfold u2
  by_cases h : M n g
  · rw [if_pos (h1 h).1, if_pos h, (h1 h).2, tt_eq, ← EReal.coe_mul]
  · rw [if_neg (h2 h), if_neg h, EReal.coe_zero]

open Classical in
theorem wv_eq (n : Fin 20000) (g : Fin 128) :
    wv (pwN m c n.val g) (cmT m c 20000 g) = ((if M n g then (1 - wt σ γ cl M n g) * (1 - wt σ γ cl M n g) else 0 : ℝ) : EReal) := by
  obtain ⟨h1, h2⟩ := weight_cases D n g
  unfold wv
  by_cases h : M n g
  · rw [if_pos (h1 h).1, if_pos h, (h1 h).2, tt_eq, ← EReal.coe_one, ← EReal.coe_sub, ← EReal.coe_mul]
  · rw [if_neg (h2 h), if_neg h, EReal.coe_zero]

/-- The kernel's total is that real number. -/
theorem total_eq : total m c = (kernelTotal (fun n k => gLg m c (ix2 n k)) (wt σ γ cl M) M : EReal) := by
  classical
  have e1 : ∑ k : Fin 80, (∑ n ∈ Finset.range 20000, fneg (lgN m c n k)) = ((∑ k : Fin 80, ∑ n : Fin 20000, ph (gLg m c (ix2 n k)) : ℝ) : EReal) := by
    rw [coe_sum]
    refine Finset.sum_congr rfl fun k _ => ?_
    rw [coe_sum, Finset.sum_range]
    exact Finset.sum_congr rfl fun n _ => by rw [fneg_eq, lgN_eq]
  have e2 : ∑ n ∈ Finset.range 20000, corN m c n = ((∑ n : Fin 20000, (if inBox M n then -ph (gLg m c (ix2 n 0)) else 0) : ℝ) : EReal) := by
    rw [coe_sum, Finset.sum_range]
    exact Finset.sum_congr rfl fun n _ => corN_eq D n
  have e3 : ∑ g : Fin 128, (∑ n ∈ Finset.range 20000, av (lgN m c n 0) * u2 (pwN m c n g) (cmT m c 20000 g))
      = ((∑ g : Fin 128, ∑ n : Fin 20000, (Real.log (be (gLg m c (ix2 n 0))) * ((1 - be (gLg m c (ix2 n 0))) * (1 - be (gLg m c (ix2 n 0)))))
          * (if M n g then wt σ γ cl M n g * wt σ γ cl M n g else 0) : ℝ) : EReal) := by
    rw [coe_sum]
    refine Finset.sum_congr rfl fun g _ => ?_
    rw [coe_sum, Finset.sum_range]
    exact Finset.sum_congr rfl fun n _ => by rw [av_eq, u2_eq D, lgN_eq, ← EReal.coe_mul]
  have e4 : ∑ g : Fin 128, (∑ n ∈ Finset.range 20000, bv (lgN m c n 0) * wv (pwN m c n g) (cmT m c 20000 g))
      = ((∑ g : Fin 128, ∑ n : Fin 20000, (-ph (gLg m c (ix2 n 0)))
          * (if M n g then (1 - wt σ γ cl M n g) * (1 - wt σ γ cl M n g) else 0) : ℝ) : EReal) := by
    rw [coe_sum]
    refine Finset.sum_congr rfl fun g _ => ?_
    rw [coe_sum, Finset.sum_range]
    exact Finset.sum_congr rfl fun n _ => by rw [bv_eq, wv_eq D, lgN_eq, ← EReal.coe_mul]
  unfold total kernelTotal
  rw [e1, e2, e3, e4, c34_eq, c14_eq, ← EReal.coe_add, ← EReal.coe_add, ← EReal.coe_mul, ← EReal.coe_mul, ← EReal.coe_sub]

end Cert.Proof.IdealRun

end
-- ==== Proof.RefIdx.lean ====
/-
  The reference's lookups of a label's column and its write of the first class's column, read at a place.
-/
module

public import proofs.«01_k».proof.Proof.Gen.ReferenceIdeal.Run
public import proofs.«01_k».proof.Proof.Spec
public import Idealize.ShloMosaic.Lib.Routing.OpsSet
public import Idealize.ShloMosaic.Lib.Routing.OpsPair

@[expose] public section

noncomputable section

namespace Cert.Proof.RefVal

open Cert.ReferenceIdeal Cert.ReferenceIdeal.Gen
open Idealize.ShloMosaic Idealize.ShloMosaic.Routing

/-- The lookup of a column read at a row and a label: the row's element at the label's word, kept inside the columns. -/
theorem take_at {α : Type} (x : S20000x80.Idx → α) (idx : IVec S128x1 32) (n : Fin 20000) (g : Fin 128) :
    Host.gather gather_S20000x80_S128x1_S20000x128_0_1_n_n_1_1_200001 x idx (ix2 n g)
      = x (ix2 n ⟨min (idx (ix2 g 0)).toInt.toNat 79, by omega⟩) := by
  unfold Host.gather
  refine congrArg x (funext fun a => Fin.ext ?_)
  show gather_S20000x80_S128x1_S20000x128_0_1_n_n_1_1_200001.start (ix2 n g) idx a
    + gather_S20000x80_S128x1_S20000x128_0_1_n_n_1_1_200001.batchCoord (ix2 n g) a
    + gather_S20000x80_S128x1_S20000x128_0_1_n_n_1_1_200001.offCoord (ix2 n g) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · have h0 : (0 : Fin 2) ∉ gather_S20000x80_S128x1_S20000x128_0_1_n_n_1_1_200001.startIndexMap := by
      show (0 : Fin 2) ∉ [(1 : Fin 2)]
      decide
    have hk : (0 : Fin 2) ∈ gather_S20000x80_S128x1_S20000x128_0_1_n_n_1_1_200001.sKept := by decide
    unfold GatherDims.start GatherDims.offCoord
    rw [dif_neg h0, dif_pos hk, Nat.zero_add]
    rfl
  · have h1 : (1 : Fin 2) ∈ gather_S20000x80_S128x1_S20000x128_0_1_n_n_1_1_200001.startIndexMap := List.mem_singleton.mpr rfl
    rw [GatherDims.offCoord_eq_zero _ _ _ (by decide), Nat.add_zero]
    unfold GatherDims.start
    rw [dif_pos h1]
    have hsi : gather_S20000x80_S128x1_S20000x128_0_1_n_n_1_1_200001.siIdx (ix2 n g)
        ⟨List.idxOf (1 : Fin 2) gather_S20000x80_S128x1_S20000x128_0_1_n_n_1_1_200001.startIndexMap, List.idxOf_lt_length_iff.2 h1⟩ = ix2 g 0 := by
      funext b; refine Fin.ext ?_
      match b with
      | ⟨0, _⟩ => rfl
      | ⟨1, _⟩ => rfl
    rw [hsi]
    rfl

/-- Where a row's update of the column lands: its row, the column the word names. -/
theorem put_lands (r : Fin 20000) (idx : IVec S1 32) (n : Fin 20000) (k : Fin 80) :
    scatter_S20000x80_S1_S20000_0_1_1_0.resultIdx? (ix1 r) idx = some (ix2 n k) ↔ r = n ∧ (idx (ix1 0)).toInt = (k.val : Int) := by
  refine (resultIdx?_ix2 (R := 20000) (C := 80) _ _ _ n k).trans ?_
  have s0 : scatter_S20000x80_S1_S20000_0_1_1_0.start (ix1 r) idx 0 = 0 := by
    unfold ScatterDims.start
    exact dif_neg (show (0 : Fin 2) ∉ [(1 : Fin 2)] from by decide)
  have h1 : (1 : Fin 2) ∈ scatter_S20000x80_S1_S20000_0_1_1_0.scatterDimsToOperandDims := List.mem_singleton.mpr rfl
  have s1 : scatter_S20000x80_S1_S20000_0_1_1_0.start (ix1 r) idx 1 = (idx (ix1 0)).toInt := by
    unfold ScatterDims.start
    rw [dif_pos h1]
    refine congrArg (fun i => (idx i).toInt) ?_
    funext b; refine Fin.ext ?_
    match b with
    | ⟨0, _⟩ => rfl
  have w0 : scatter_S20000x80_S1_S20000_0_1_1_0.window (ix1 r) 0 = r.val := by
    unfold ScatterDims.window
    rw [dif_pos (show (0 : Fin 2) ∈ scatter_S20000x80_S1_S20000_0_1_1_0.sKept by decide)]
    rfl
  have w1 : scatter_S20000x80_S1_S20000_0_1_1_0.window (ix1 r) 1 = 0 := by
    unfold ScatterDims.window
    rw [dif_neg (show (1 : Fin 2) ∉ scatter_S20000x80_S1_S20000_0_1_1_0.sKept by decide)]
  rw [s0, s1, w0, w1]
  constructor
  · rintro ⟨a, b⟩; exact ⟨Fin.ext (by omega), by omega⟩
  · rintro ⟨rfl, b⟩; exact ⟨by omega, by omega⟩

/-- The write of the first column, read at a place: the update's row there, the operand elsewhere. -/
theorem put_at {α : Type} (x : S20000x80.Idx → α) (idx : IVec S1 32) (h : idx (ix1 0) = 0#32) (u : S20000.Idx → α) (n : Fin 20000) (k : Fin 80) :
    Host.scatter scatter_S20000x80_S1_S20000_0_1_1_0 (fun _ b => b) x idx u (ix2 n k) = if k = 0 then u (ix1 n) else x (ix2 n k) := by
  have e : ∀ j : S20000.Idx, j = ix1 (j 0) := fun j => by
    funext a; match a with | ⟨0, _⟩ => rfl
  by_cases hk : k = 0
  · subst hk
    rw [if_pos rfl]
    refine scatter_set_hit _ _ _ _ _ _ (fun j hj => ?_) (ix1 n) ((put_lands n idx n 0).2 ⟨rfl, by rw [h]; rfl⟩)
    rw [e j] at hj ⊢
    exact congrArg (fun r => u (ix1 r)) ((put_lands _ idx n 0).1 hj).1
  · rw [if_neg hk]
    refine scatter_set_miss _ _ _ _ _ fun j hj => hk ?_
    rw [e j] at hj
    have := ((put_lands _ idx n k).1 hj).2
    rw [h] at this
    exact Fin.ext (by have : (0 : Int) = k.val := this; show k.val = 0; omega)

end Cert.Proof.RefVal

end
-- ==== Proof.RefTerms.lean ====
/-
  What the reference's named values hold, element by element.
-/
module

public import proofs.«01_k».proof.Proof.Spec
public import proofs.«01_k».proof.Proof.RefIdx
public import Idealize.ShloMosaic.Lib.IdealHost
public import Idealize.ShloMosaic.Lib.Tactic.CleanTypes

@[expose] public section

noncomputable section

namespace Cert.Proof.RefVal

open Cert.ReferenceIdeal Cert.ReferenceIdeal.Gen Cert.ReferenceIdeal.Value Cert.Proof.Loss
open Idealize.ShloMosaic Idealize.ShloMosaic.TcCoe Idealize.ShloMosaic.Tactic

variable (V : Valuation τ sig (Elt Ideal))

abbrev aLg : FVec Ideal S20000x80 .f32 := V (Proc.devRef .tc main_arg0)
abbrev aSc : FVec Ideal S20000x80 .f32 := V (Proc.devRef .tc main_arg1)
abbrev aGi : FVec Ideal S20000x80 .f32 := V (Proc.devRef .tc main_arg2)
abbrev aIb : IVec S20000x128 32 := V (Proc.devRef .tc main_arg3)
abbrev aLab : IVec S128 32 := V (Proc.devRef .tc main_arg4)

/-- The box indicator as a number. -/
def fF (n : Fin 20000) (g : Fin 128) : EReal := FloatOps.sitofp (F := Ideal) FTy.f32 (aIb V (ix2 n g))

/-- A choice on a decided bit is the choice on the statement. -/
theorem sel_dec {α : Type} (p : Prop) [Decidable p] (a b : α) : Scalar.select (BitVec.ofBool (decide p)) a b = if p then a else b := by
  by_cases h : p <;> simp [h, Scalar.select]

theorem bits0 : (FloatOps.ofBits (F := Ideal) FTy.f32 0x00000000#32 : EReal) = 0 := Ideal.ofBits_zero_f32
theorem bits1 : (FloatOps.ofBits (F := Ideal) FTy.f32 0x3F800000#32 : EReal) = 1 := Ideal.ofBits_one_f32

theorem andi_dec (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem v6_at (n : Fin 20000) (k : Fin 80) : (res_main_v6 V : FVec Ideal S20000x80 .f32) (ix2 n k) = bp (aLg V (ix2 n k)) := by
  unfold res_main_v6; clean_types; pointwise; rfl

theorem v56_at (n : Fin 20000) : (res_main_v56 V : FVec Ideal S20000 .f32) (ix1 n) = bp (aLg V (ix2 n 0)) := by
  unfold res_main_v56; clean_types; pointwise; exact v6_at V n 0

theorem v7_at (n : Fin 20000) (g : Fin 128) : (res_main_v7 V : FVec Ideal S20000x128 .f32) (ix2 n g) = fF V n g := rfl

theorem v9_at (n : Fin 20000) (g : Fin 128) : (res_main_v9 V : IVec S20000x128 1) (ix2 n g) = BitVec.ofBool (decide (0 < fF V n g)) := by
  unfold res_main_v9 res_main_v7; clean_types; pointwise; rfl

variable (cl : Fin 128 → Fin 80) (hl : ∀ g, aLab V (ix1 g) = BitVec.ofNat 32 (cl g).val)
include hl

theorem lab1_at (g : Fin 128) : (res_main_call1_v5 V : IVec S128x1 32) (ix2 g 0) = BitVec.ofNat 32 (cl g).val := by
  unfold res_main_call1_v5; clean_types; pointwise
  rw [show (V (Proc.tc.devRef main_arg4) : IVec S128 32) (ix1 g) = _ from hl g]
  exact (by decide : ∀ k : Fin 80, Scalar.select (IntOp.cmpi .slt (BitVec.ofNat 32 k.val) 0#32) (IntOp.addi (BitVec.ofNat 32 k.val) 80#32) (BitVec.ofNat 32 k.val) = BitVec.ofNat 32 k.val) (cl g)

theorem lab2_at (g : Fin 128) : (res_main_call2_v5 V : IVec S128x1 32) (ix2 g 0) = BitVec.ofNat 32 (cl g).val := lab1_at V cl hl g

omit hl in
theorem inside (k : Fin 80) : IntOp.andi (IntOp.cmpi .sge (BitVec.ofNat 32 k.val) 0#32) (IntOp.cmpi .sle (BitVec.ofNat 32 k.val) 79#32) = 1#1 :=
  (by decide : ∀ k : Fin 80, IntOp.andi (IntOp.cmpi .sge (BitVec.ofNat 32 k.val) 0#32) (IntOp.cmpi .sle (BitVec.ofNat 32 k.val) 79#32) = 1#1) k

omit hl in
theorem toInt_lab (k : Fin 80) : min (BitVec.ofNat 32 k.val).toInt.toNat 79 = k.val :=
  (by decide : ∀ k : Fin 80, min (BitVec.ofNat 32 k.val).toInt.toNat 79 = k.val) k

/-- A looked-up column where the label is one of the classes. -/
theorem take_label (x : FVec Ideal S20000x80 .f32) (idx : IVec S128x1 32) (hi : ∀ g, idx (ix2 g 0) = BitVec.ofNat 32 (cl g).val)
    (z : EReal) (n : Fin 20000) (g : Fin 128) :
    Scalar.select
        (Finset.fold IntOp.andi (1#1)
          (fun x : Fin 1 => IntOp.andi (IntOp.cmpi CmpIPredicate.sge (idx (ix2 g x)) 0#32) (IntOp.cmpi CmpIPredicate.sle (idx (ix2 g x)) 79#32))
          Finset.univ)
        (Host.gather gather_S20000x80_S128x1_S20000x128_0_1_n_n_1_1_200001 x idx (ix2 n g)) z
      = x (ix2 n (cl g)) := by
  rw [take_at, Finset.univ_unique, Finset.fold_singleton]
  show Scalar.select (IntOp.andi (IntOp.andi (IntOp.cmpi CmpIPredicate.sge (idx (ix2 g 0)) 0#32) (IntOp.cmpi CmpIPredicate.sle (idx (ix2 g 0)) 79#32)) 1#1) _ _ = _
  rw [show IntOp.andi (IntOp.andi (IntOp.cmpi CmpIPredicate.sge (idx (ix2 g 0)) 0#32) (IntOp.cmpi CmpIPredicate.sle (idx (ix2 g 0)) 79#32)) 1#1 = 1#1 from by
    rw [hi g, inside]; rfl]
  show x (ix2 n _) = _
  exact congrArg (fun k => x (ix2 n k)) (Fin.ext (by show min (idx (ix2 g 0)).toInt.toNat 79 = (cl g).val; rw [hi g]; exact toInt_lab (cl g)))

theorem v11_at (n : Fin 20000) (g : Fin 128) :
    (res_main_v11 V : FVec Ideal S20000x128 .f32) (ix2 n g) = aSc V (ix2 n (cl g)) * fF V n g := by
  unfold res_main_v11; clean_types; pointwise
  exact congrArg₂ (fun a b : EReal => a * b) (take_label V cl hl (aSc V) (res_main_call1_v5 V) (lab1_at V cl hl) _ n g) (v7_at V n g)

/-- The alignment of a row with a column. -/
def alR (n : Fin 20000) (g : Fin 128) : EReal := aSc V (ix2 n (cl g)) * fF V n g
/-- The largest alignment of a column's boxes, zero outside them. -/
def cfR (g : Fin 128) : EReal := Finset.fold max ⊥ (fun n => if 0 < fF V n g then alR V cl n g else 0) Finset.univ
/-- The weight of a row for a column. -/
def pwR (n : Fin 20000) (g : Fin 128) : EReal :=
  if 0 < fF V n g then Ideal.pow (if 0 < fF V n g then alR V cl n g else 1) (cfR V cl g) * (aGi V (ix2 n (cl g)) * fF V n g) else 0
/-- The weight over its column's largest. -/
def tR (n : Fin 20000) (g : Fin 128) : EReal :=
  if 0 < fF V n g then Ideal.div (pwR V cl n g + lo) (Finset.fold max ⊥ (fun n => pwR V cl n g) Finset.univ + lo) else 0
/-- That, kept away from zero and one where it is positive. -/
def cR (n : Fin 20000) (g : Fin 128) : EReal := if 0 < tR V cl n g then min up (max lo (tR V cl n g)) else tR V cl n g
/-- Where a row weighs for a column. -/
def PR (n : Fin 20000) (g : Fin 128) : Prop := 0 < cR V cl n g ∧ 0 < ∑ n, cR V cl n g
open Classical in
/-- The weight there, a half elsewhere. -/
def dR (n : Fin 20000) (g : Fin 128) : EReal := if PR V cl n g then cR V cl n g else Ideal.ofBits FTy.f32 0x3F000000#32

theorem v22_at (n : Fin 20000) (g : Fin 128) : (res_main_v22 V : FVec Ideal S20000x128 .f32) (ix2 n g) = pwR V cl n g := by
  unfold res_main_v22; clean_types; pointwise
  simp only [v9_at, sel_dec, v11_at V cl hl]
  rw [take_label V cl hl (aGi V) (res_main_call2_v5 V) (lab2_at V cl hl) _ n g, v7_at]
  simp only [id, constant_apply, bits0, bits1]
  unfold pwR cfR alR
  rw [← ofBits_bot]

end Cert.Proof.RefVal

end
-- ==== Proof.RefQuot.lean ====
/-
  The reference's quotient by a column's largest, read at a place.
-/
module

public import proofs.«01_k».proof.Proof.Spec
public import proofs.«01_k».proof.Proof.RefTerms
public import Idealize.ShloMosaic.Lib.IdealHost
public import Idealize.ShloMosaic.Lib.Tactic.CleanTypes

@[expose] public section

noncomputable section

namespace Cert.Proof.RefVal

open Cert.ReferenceIdeal Cert.ReferenceIdeal.Gen Cert.ReferenceIdeal.Value Cert.Proof.Loss
open Idealize.ShloMosaic Idealize.ShloMosaic.TcCoe Idealize.ShloMosaic.Tactic

variable (V : Valuation τ sig (Elt Ideal))

/-- The quotient by a column's largest, where a bit is set. -/
theorem ratio_at (m9 : IVec S20000x128 1) (w : FVec Ideal S20000x128 .f32) (n : Fin 20000) (g : Fin 128) :
    (select (andi m9 (broadcastInDim S20000x128 ![0, 1] bcast_S1x128_S20000x128_0_1 (broadcastInDim S1x128 ![1] bcast_S128_S1x128_1 (Host.reduce IntOp.ori m9 (constantI S_ 1 0#1) reducesTo_S20000x128_S128_d0 h_S_)))) (Host.divf (addf w (broadcastInDim S20000x128 ![] bcast_S_S20000x128 (constant S_ .f32 0x38D1B717#32))) (broadcastInDim S20000x128 ![0, 1] bcast_S1x128_S20000x128_0_1 (addf (broadcastInDim S1x128 ![1] bcast_S128_S1x128_1 (Host.reduce FloatOps.maximumf w (constant S_ .f32 0xFF800000#32) reducesTo_S20000x128_S128_d0 h_S_)) (broadcastInDim S1x128 ![] bcast_S_S1x128 (constant S_ .f32 0x38D1B717#32))))) (broadcastInDim S20000x128 ![] bcast_S_S20000x128 (id (constant S_ .f32 0x00000000#32))) : FVec Ideal S20000x128 .f32) (ix2 n g) =
      Scalar.select (IntOp.andi (m9 (ix2 n g)) (Finset.fold IntOp.ori (0#1) (fun x => m9 (ix2 x g)) Finset.univ))
        (Ideal.div (w (ix2 n g) + lo) (Finset.fold max (Ideal.ofBits FTy.f32 0xFF800000#32) (fun x => w (ix2 x g)) Finset.univ + lo)) 0 := by
  pointwise
  simp only [id, constant_apply, bits0]
  rfl

end Cert.Proof.RefVal

end
-- ==== Proof.RefRatio.lean ====
/-
  The reference's weights over their column's largest.
-/
module

public import proofs.«01_k».proof.Proof.Spec
public import proofs.«01_k».proof.Proof.RefQuot
public import Idealize.ShloMosaic.Lib.IdealHost
public import Idealize.ShloMosaic.Lib.Tactic.CleanTypes

@[expose] public section

noncomputable section

namespace Cert.Proof.RefVal

open Cert.ReferenceIdeal Cert.ReferenceIdeal.Gen Cert.ReferenceIdeal.Value Cert.Proof.Loss
open Idealize.ShloMosaic Idealize.ShloMosaic.TcCoe Idealize.ShloMosaic.Tactic

variable (V : Valuation τ sig (Elt Ideal))

variable (cl : Fin 128 → Fin 80) (hl : ∀ g, aLab V (ix1 g) = BitVec.ofNat 32 (cl g).val)

/-- A column with a box in it is found by any of its boxes. -/
theorem any_box (f : Fin 20000 → Prop) [∀ n, Decidable (f n)] (n : Fin 20000) (h : f n) :
    Finset.fold IntOp.ori (0#1) (fun x => BitVec.ofBool (decide (f x))) Finset.univ = 1#1 := by
  have : ∀ b, (IntOp.ori 1#1 b : BitVec 1) = 1#1 := by decide
  rw [← Finset.insert_erase (Finset.mem_univ n), Finset.fold_insert (Finset.notMem_erase _ _), decide_eq_true h]
  exact this _

theorem sel_andi (p : Prop) [Decidable p] (b : BitVec 1) (hb : p → b = 1#1) (x y : EReal) :
    Scalar.select (IntOp.andi (BitVec.ofBool (decide p)) b) x y = if p then x else y := by
  by_cases h : p
  · rw [hb h, decide_eq_true h, if_pos h]
    rfl
  · rw [decide_eq_false h, if_neg h]
    have : ∀ b : BitVec 1, IntOp.andi (BitVec.ofBool false) b = 0#1 := by decide
    rw [this]
    rfl

include hl in
theorem v34_at (n : Fin 20000) (g : Fin 128) : (res_main_v34 V : FVec Ideal S20000x128 .f32) (ix2 n g) = tR V cl n g := by
  unfold res_main_v34; clean_types
  refine (ratio_at (res_main_v9 V) (res_main_v22 V) n g).trans ?_
  simp only [v9_at, v22_at V cl hl]
  rw [sel_andi (0 < fF V n g) _ (fun h => any_box (fun x : Fin 20000 => 0 < fF V x g) n h)]
  unfold tR
  rw [ofBits_bot]

end Cert.Proof.RefVal

end
-- ==== Proof.RefWeight.lean ====
/-
  The reference's clipped weights.
-/
module

public import proofs.«01_k».proof.Proof.Spec
public import proofs.«01_k».proof.Proof.RefRatio
public import Idealize.ShloMosaic.Lib.IdealHost
public import Idealize.ShloMosaic.Lib.Tactic.CleanTypes

@[expose] public section

noncomputable section

namespace Cert.Proof.RefVal

open Cert.ReferenceIdeal Cert.ReferenceIdeal.Gen Cert.ReferenceIdeal.Value Cert.Proof.Loss
open Idealize.ShloMosaic Idealize.ShloMosaic.TcCoe Idealize.ShloMosaic.Tactic

variable (V : Valuation τ sig (Elt Ideal))

variable (cl : Fin 128 → Fin 80) (hl : ∀ g, aLab V (ix1 g) = BitVec.ofNat 32 (cl g).val)
include hl

theorem v60_at (n : Fin 20000) (g : Fin 128) : (res_main_v60 V : FVec Ideal S20000x128 .f32) (ix2 n g) = cR V cl n g := by
  unfold res_main_v60; clean_types; pointwise
  simp only [v34_at V cl hl]
  rfl

open Classical in
theorem v68_at (n : Fin 20000) (g : Fin 128) :
    (res_main_v68 V : IVec S20000x128 1) (ix2 n g) = BitVec.ofBool (decide (PR V cl n g)) := by
  unfold res_main_v68; clean_types; pointwise
  simp only [v60_at V cl hl]
  rw [andi_dec]
  unfold PR
  congr

open Classical in
theorem v69_at (n : Fin 20000) (g : Fin 128) : (res_main_v69 V : FVec Ideal S20000x128 .f32) (ix2 n g) = dR V cl n g := by
  unfold res_main_v69; clean_types; pointwise
  simp only [v60_at V cl hl, v68_at V cl hl, sel_dec]
  rfl

end Cert.Proof.RefVal

end
-- ==== Proof.RefLoss.lean ====
/-
  The reference's three losses, read at a place.
-/
module

public import proofs.«01_k».proof.Proof.Spec
public import proofs.«01_k».proof.Proof.RefTerms
public import Idealize.ShloMosaic.Lib.IdealHost
public import Idealize.ShloMosaic.Lib.Tactic.CleanTypes

@[expose] public section

noncomputable section

namespace Cert.Proof.RefVal

open Cert.ReferenceIdeal Cert.ReferenceIdeal.Gen Cert.ReferenceIdeal.Value Cert.Proof.Loss
open Idealize.ShloMosaic Idealize.ShloMosaic.TcCoe Idealize.ShloMosaic.Tactic

theorem bits2 : (FloatOps.ofBits (F := Ideal) FTy.f32 0x40000000#32 : EReal) = Ideal.ofBits FTy.f32 0x40000000#32 := rfl

/-- Whether the first class's loss of a row counts: not for a row in a box. -/
theorem cnt_at (f : FVec Ideal S20000x128 .f32) (n : Fin 20000) :
    (select (cmpf .ogt (Host.reduceAdd f (constant S_ .f32 0x00000000#32) reducesTo_S20000x128_S20000_d1 h_S_) (broadcastInDim S20000 ![] bcast_S_S20000 (constant S_ .f32 0x00000000#32))) (broadcastInDim S20000 ![] bcast_S_S20000 (constant S_ .f32 0x00000000#32)) (broadcastInDim S20000 ![] bcast_S_S20000 (constant S_ .f32 0x3F800000#32)) : FVec Ideal S20000 .f32) (ix1 n)
      = if 0 < ∑ g : Fin 128, f (ix2 n g) then (0 : EReal) else 1 := by
  pointwise

/-- The negative loss of a row and a class, dropped in the first class for a row in a box. -/
theorem neg_at (b : FVec Ideal S20000x80 .f32) (f : FVec Ideal S20000x128 .f32) (n : Fin 20000) (k : Fin 80) :
    ((select (cmpf .ogt (Host.scatter scatter_S20000x80_S1_S20000_0_1_1_0 (fun _ b => b) (broadcastInDim S20000x80 ![] bcast_S_S20000x80 (constant S_ .f32 0x3F800000#32)) (broadcastInDim S1 ![] bcast_S_S1 (constantI S_ 32 0#32)) (id (select (cmpf .ogt (Host.reduceAdd f (constant S_ .f32 0x00000000#32) reducesTo_S20000x128_S20000_d1 h_S_) (broadcastInDim S20000 ![] bcast_S_S20000 (constant S_ .f32 0x00000000#32))) (broadcastInDim S20000 ![] bcast_S_S20000 (constant S_ .f32 0x00000000#32)) (broadcastInDim S20000 ![] bcast_S_S20000 (constant S_ .f32 0x3F800000#32)))) : FVec Ideal S20000x80 .f32) (broadcastInDim S20000x80 ![] bcast_S_S20000x80 (constant S_ .f32 0x00000000#32))) (mulf (Host.negf (Host.log (subf (broadcastInDim S20000x80 ![] bcast_S_S20000x80 (constant S_ .f32 0x3F800000#32)) b))) (Host.powf b (broadcastInDim S20000x80 ![] bcast_S_S20000x80 (constant S_ .f32 0x40000000#32)))) (broadcastInDim S20000x80 ![] bcast_S_S20000x80 (id (constant S_ .f32 0x00000000#32)))) : FVec Ideal S20000x80 .f32) (ix2 n k) =
      if k = 0 ∧ 0 < ∑ g : Fin 128, f (ix2 n g) then (0 : EReal)
      else -Ideal.log (1 - b (ix2 n k)) * Ideal.pow (b (ix2 n k)) (Ideal.ofBits FTy.f32 0x40000000#32) := by
  pointwise
  rw [put_at _ _ rfl]
  by_cases hk : k = 0
  · simp only [if_pos hk, id, constant_apply, bits0]
    erw [cnt_at f n]
    by_cases hp : 0 < ∑ g : Fin 128, f (ix2 n g)
    · rw [if_pos hp, if_pos (And.intro hk hp)]
      exact if_neg (lt_irrefl _)
    · rw [if_neg hp, if_neg (fun h : k = 0 ∧ 0 < ∑ g : Fin 128, f (ix2 n g) => hp h.2)]
      exact if_pos zero_lt_one
  · rw [if_neg hk, if_neg (fun h : k = 0 ∧ 0 < ∑ g : Fin 128, f (ix2 n g) => hk h.1)]
    pointwise
    exact if_pos zero_lt_one

/-- The positive loss of a row for a column. -/
theorem pos_at (p : IVec S20000x128 1) (d : FVec Ideal S20000x128 .f32) (b : FVec Ideal S20000 .f32) (n : Fin 20000) (g : Fin 128) :
    ((select p (mulf (broadcastInDim S20000x128 ![0, 1] bcast_S20000x1_S20000x128_0_1 (broadcastInDim S20000x1 ![0] bcast_S20000_S20000x1_0 (Host.log b))) (Host.powf (mulf d (broadcastInDim S20000x128 ![0, 1] bcast_S20000x1_S20000x128_0_1 (broadcastInDim S20000x1 ![0] bcast_S20000_S20000x1_0 (subf (broadcastInDim S20000 ![] bcast_S_S20000 (constant S_ .f32 0x3F800000#32)) b)))) (broadcastInDim S20000x128 ![] bcast_S_S20000x128 (constant S_ .f32 0x40000000#32)))) (broadcastInDim S20000x128 ![] bcast_S_S20000x128 (id (constant S_ .f32 0x00000000#32)))) : FVec Ideal S20000x128 .f32) (ix2 n g) =
      Scalar.select (p (ix2 n g))
        (Ideal.log (b (ix1 n)) * Ideal.pow (d (ix2 n g) * (1 - b (ix1 n))) (Ideal.ofBits FTy.f32 0x40000000#32)) (0 : EReal) := by
  pointwise
  simp only [id, constant_apply, bits0]

/-- The box loss of a row for a column. -/
theorem box_at (p : IVec S20000x128 1) (d : FVec Ideal S20000x128 .f32) (b : FVec Ideal S20000 .f32) (n : Fin 20000) (g : Fin 128) :
    ((select p (mulf (broadcastInDim S20000x128 ![0, 1] bcast_S20000x1_S20000x128_0_1 (broadcastInDim S20000x1 ![0] bcast_S20000_S20000x1_0 (Host.log (subf (broadcastInDim S20000 ![] bcast_S_S20000 (constant S_ .f32 0x3F800000#32)) b)))) (Host.powf (mulf (subf (broadcastInDim S20000x128 ![] bcast_S_S20000x128 (constant S_ .f32 0x3F800000#32)) d) (broadcastInDim S20000x128 ![0, 1] bcast_S20000x1_S20000x128_0_1 (broadcastInDim S20000x1 ![0] bcast_S20000_S20000x1_0 b))) (broadcastInDim S20000x128 ![] bcast_S_S20000x128 (constant S_ .f32 0x40000000#32)))) (broadcastInDim S20000x128 ![] bcast_S_S20000x128 (id (constant S_ .f32 0x00000000#32)))) : FVec Ideal S20000x128 .f32) (ix2 n g) =
      Scalar.select (p (ix2 n g))
        (Ideal.log (1 - b (ix1 n)) * Ideal.pow ((1 - d (ix2 n g)) * b (ix1 n)) (Ideal.ofBits FTy.f32 0x40000000#32)) (0 : EReal) := by
  pointwise
  simp only [id, constant_apply, bits0]

/-- The three losses' sums, weighted and averaged. -/
theorem mean_at (x : FVec Ideal S20000x80 .f32) (y z : FVec Ideal S20000x128 .f32) (w : IVec S_ 32) (j : S_.Idx) :
    (Host.divf (addf (addf (mulf (Host.reduceAdd x (constant S_ .f32 0x00000000#32) reducesTo_S20000x80_S_d0_1 h_S_) (constant S_ .f32 0x3F400000#32)) (mulf (Host.negf (Host.reduceAdd y (constant S_ .f32 0x00000000#32) reducesTo_S20000x128_S_d0_1 h_S_)) (constant S_ .f32 0x3E800000#32))) (mulf (Host.negf (Host.reduceAdd z (constant S_ .f32 0x00000000#32) reducesTo_S20000x128_S_d0_1 h_S_)) (constant S_ .f32 0x3E800000#32))) (sitofp .f32 w) : FVec Ideal S_ .f32) j
      = Ideal.div ((∑ n, ∑ k, x (ix2 n k)) * Ideal.ofBits FTy.f32 0x3F400000#32
          + (-∑ n, ∑ g, y (ix2 n g)) * Ideal.ofBits FTy.f32 0x3E800000#32
          + (-∑ n, ∑ g, z (ix2 n g)) * Ideal.ofBits FTy.f32 0x3E800000#32) (FloatOps.sitofp (F := Ideal) FTy.f32 (w ix0)) := by
  have e : j = ix0 := funext fun a => a.elim0
  rw [e]
  pointwise
  try rfl

end Cert.Proof.RefVal

end
-- ==== Proof.Equation.lean ====
/-
  The reference's total as a real number, and its equality with the kernel's.
-/
module

public import proofs.«01_k».proof.Proof.KerTotal

@[expose] public section

noncomputable section

namespace Cert.Proof.Loss

open Classical in
/-- The reference's total, over the logits, the weights and the boxes. -/
def referenceTotal (x : Fin 20000 → Fin 80 → EReal) (w : Fin 20000 → Fin 128 → ℝ) (M : Fin 20000 → Fin 128 → Prop) : ℝ :=
  (∑ n : Fin 20000, ∑ k : Fin 80, (if k = 0 ∧ inBox M n then 0 else ph (x n k))) * (3 / 4)
    + (-∑ n : Fin 20000, ∑ g : Fin 128, (if M n g then
        Real.log (be (x n 0)) * ((w n g * (1 - be (x n 0))) * (w n g * (1 - be (x n 0)))) else 0)) * (1 / 4)
    + (-∑ n : Fin 20000, ∑ g : Fin 128, (if M n g then
        Real.log (1 - be (x n 0)) * (((1 - w n g) * be (x n 0)) * ((1 - w n g) * be (x n 0))) else 0)) * (1 / 4)

/-- The two totals are equal. -/
theorem totals_eq (x : Fin 20000 → Fin 80 → EReal) (w : Fin 20000 → Fin 128 → ℝ) (M : Fin 20000 → Fin 128 → Prop) :
    kernelTotal x w M = referenceTotal x w M := by
  classical
  have e1 : (∑ n : Fin 20000, ∑ k : Fin 80, (if k = 0 ∧ inBox M n then 0 else ph (x n k)))
      = (∑ k : Fin 80, ∑ n : Fin 20000, ph (x n k)) + ∑ n : Fin 20000, (if inBox M n then -ph (x n 0) else 0) := by
    rw [Finset.sum_comm (s := (Finset.univ : Finset (Fin 80))), ← Finset.sum_add_distrib]
    refine Finset.sum_congr rfl fun n _ => ?_
    by_cases h : inBox M n
    · rw [if_pos h, ← Finset.add_sum_erase _ _ (Finset.mem_univ (0 : Fin 80)), if_pos ⟨rfl, h⟩,
        ← Finset.add_sum_erase (Finset.univ : Finset (Fin 80)) (fun k => ph (x n k)) (Finset.mem_univ 0)]
      rw [Finset.sum_congr rfl (fun k hk => if_neg fun q : k = 0 ∧ inBox M n => (Finset.ne_of_mem_erase hk) q.1)]
      ring
    · rw [if_neg h, add_zero]
      exact Finset.sum_congr rfl fun k _ => if_neg fun q => h q.2
  have e2 : (∑ n : Fin 20000, ∑ g : Fin 128, (if M n g then
        Real.log (be (x n 0)) * ((w n g * (1 - be (x n 0))) * (w n g * (1 - be (x n 0)))) else 0))
      = ∑ g : Fin 128, ∑ n : Fin 20000,
          (Real.log (be (x n 0)) * ((1 - be (x n 0)) * (1 - be (x n 0)))) * (if M n g then w n g * w n g else 0) := by
    rw [Finset.sum_comm]
    refine Finset.sum_congr rfl fun g _ => Finset.sum_congr rfl fun n _ => ?_
    split
    · ring
    · rw [mul_zero]
  have e3 : (∑ n : Fin 20000, ∑ g : Fin 128, (if M n g then
        Real.log (1 - be (x n 0)) * (((1 - w n g) * be (x n 0)) * ((1 - w n g) * be (x n 0))) else 0))
      = ∑ g : Fin 128, ∑ n : Fin 20000, (-ph (x n 0)) * (if M n g then (1 - w n g) * (1 - w n g) else 0) := by
    rw [Finset.sum_comm]
    refine Finset.sum_congr rfl fun g _ => Finset.sum_congr rfl fun n _ => ?_
    unfold ph
    split
    · ring
    · rw [mul_zero]
  unfold kernelTotal referenceTotal
  rw [e1, e2, e3]
  ring

end Cert.Proof.Loss

end
-- ==== Proof.RefW.lean ====
/-
  The reference's weights over drawn arguments.
-/
module

public import proofs.«01_k».proof.Proof.RefWeight
public import proofs.«01_k».proof.Proof.RefLoss
public import proofs.«01_k».proof.Proof.Equation

@[expose] public section

noncomputable section

namespace Cert.Proof.RefVal

open Cert.ReferenceIdeal Cert.ReferenceIdeal.Gen Cert.ReferenceIdeal.Value Cert.Proof.Loss
open Idealize.ShloMosaic Idealize.ShloMosaic.TcCoe

variable (V : Valuation τ sig (Elt Ideal))
variable (σ γ : Fin 20000 → Fin 80 → ℝ) (cl : Fin 128 → Fin 80) (M : Fin 20000 → Fin 128 → Prop)

open Classical in
/-- The arguments as drawn: scores and overlaps real numbers, the scores at most one, the indicators zero or one, the labels classes. -/
structure Drawn : Prop where
  sc : ∀ n k, aSc V (ix2 n k) = (σ n k : EReal)
  gi : ∀ n k, aGi V (ix2 n k) = (γ n k : EReal)
  ib : ∀ n g, aIb V (ix2 n g) = if M n g then 1#32 else 0#32
  lab : ∀ g, aLab V (ix1 g) = BitVec.ofNat 32 (cl g).val
  s0 : ∀ n k, 0 ≤ σ n k
  q0 : ∀ n k, 0 ≤ γ n k

variable {V σ γ cl M}
variable (D : Drawn V σ γ cl M)
include D

open Classical in
theorem fF_eq (n : Fin 20000) (g : Fin 128) : fF V n g = if M n g then 1 else 0 := by
  unfold fF
  rw [D.ib]
  split
  · exact IdealRun.sitofp_one
  · exact IdealRun.sitofp_zero

theorem fF_pos (n : Fin 20000) (g : Fin 128) : 0 < fF V n g ↔ M n g := by
  classical
  rw [fF_eq D]
  by_cases h : M n g
  · rw [if_pos h]; exact ⟨fun _ => h, fun _ => zero_lt_one⟩
  · rw [if_neg h]; exact ⟨fun q => absurd q (lt_irrefl _), fun q => absurd q h⟩

theorem alR_eq (n : Fin 20000) (g : Fin 128) (h : M n g) : alR V cl n g = (σ n (cl g) : EReal) := by
  unfold alR
  rw [D.sc, fF_eq D, if_pos h, mul_one]

theorem cfR_eq (g : Fin 128) : cfR V cl g = cf (fun n => σ n (cl g)) (fun n => M n g) := by
  classical
  unfold cfR cf
  refine congrArg (fun f => Finset.fold max ⊥ f Finset.univ) (funext fun n => ?_)
  by_cases h : M n g
  · rw [if_pos ((fF_pos D n g).2 h), if_pos h, alR_eq D n g h]
  · rw [if_neg fun q => h ((fF_pos D n g).1 q), if_neg h]

theorem pwR_eq (n : Fin 20000) (g : Fin 128) :
    pwR V cl n g = pw (fun n => σ n (cl g)) (fun n => γ n (cl g)) (fun n => M n g) n := by
  classical
  unfold pwR pw
  by_cases h : M n g
  · rw [if_pos ((fF_pos D n g).2 h), if_pos ((fF_pos D n g).2 h), if_pos h, alR_eq D n g h, cfR_eq D, D.gi, fF_eq D, if_pos h, mul_one]
  · rw [if_neg fun q => h ((fF_pos D n g).1 q), if_neg h]

open Classical in
theorem cR_eq (n : Fin 20000) (g : Fin 128) : cR V cl n g = ((if M n g then wt σ γ cl M n g else 0 : ℝ) : EReal) := by
  have e : tR V cl n g = if M n g then Ideal.div (pw (fun n => σ n (cl g)) (fun n => γ n (cl g)) (fun n => M n g) n + lo)
      (cm (fun n => σ n (cl g)) (fun n => γ n (cl g)) (fun n => M n g) + lo) else 0 := by
    unfold tR
    rw [show (fun n => pwR V cl n g) = fun n => pw (fun n => σ n (cl g)) (fun n => γ n (cl g)) (fun n => M n g) n from funext fun n => pwR_eq D n g, pwR_eq D]
    exact if_congr (fF_pos D n g) rfl rfl
  unfold cR
  rw [e]
  by_cases h : M n g
  · rw [if_pos h, if_pos h, if_pos (quot_pos _ _ _ (fun n => D.s0 _ _) (fun n => D.q0 _ _) n)]
    exact tt_eq σ γ cl M n g
  · rw [if_neg h, if_neg h, if_neg (lt_irrefl _), EReal.coe_zero]

omit D in
theorem wt_pos (n : Fin 20000) (g : Fin 128) : 0 < wt σ γ cl M n g := by
  obtain ⟨r, e, h, _⟩ := tt_real (fun n => σ n (cl g)) (fun n => γ n (cl g)) (fun n => M n g) n
  unfold wt
  rw [e, EReal.toReal_coe]
  exact rl_pos.trans_le h

theorem PR_iff (n : Fin 20000) (g : Fin 128) : PR V cl n g ↔ M n g := by
  classical
  unfold PR
  have hc : ∀ n, 0 ≤ (if M n g then wt σ γ cl M n g else 0 : ℝ) := fun n => by
    split
    · exact (wt_pos n g).le
    · exact le_rfl
  rw [show ∑ n, cR V cl n g = ((∑ n, (if M n g then wt σ γ cl M n g else 0) : ℝ) : EReal) from by
    rw [coe_sum]; exact Finset.sum_congr rfl fun n _ => cR_eq D n g]
  rw [cR_eq D, EReal.coe_pos, EReal.coe_pos]
  constructor
  · rintro ⟨h, _⟩
    by_contra hm
    rw [if_neg hm] at h
    exact lt_irrefl _ h
  · intro h
    have h0 : 0 < (if M n g then wt σ γ cl M n g else 0 : ℝ) := by rw [if_pos h]; exact wt_pos n g
    exact ⟨h0, h0.trans_le (Finset.single_le_sum (f := fun n => (if M n g then wt σ γ cl M n g else 0 : ℝ)) (fun n _ => hc n) (Finset.mem_univ n))⟩

theorem dR_eq (n : Fin 20000) (g : Fin 128) (h : M n g) : dR V cl n g = (wt σ γ cl M n g : EReal) := by
  classical
  unfold dR
  rw [if_pos ((PR_iff D n g).2 h), cR_eq D, if_pos h]

end Cert.Proof.RefVal

end
-- ==== Proof.RefTotal.lean ====
/-
  The reference's run: what its result holds over drawn arguments.
-/
module

public import proofs.«01_k».proof.Proof.RefW

@[expose] public section

noncomputable section

namespace Cert.Proof.RefVal

open Cert.ReferenceIdeal Cert.ReferenceIdeal.Gen Cert.ReferenceIdeal.Value Cert.Proof.Loss
open Idealize.ShloMosaic Idealize.ShloMosaic.TcCoe

variable (V : Valuation τ sig (Elt Ideal))

/-- The reference's negative losses, over rows and classes. -/
def negArr : FVec Ideal S20000x80 .f32 :=
  (select (cmpf .ogt (Host.scatter scatter_S20000x80_S1_S20000_0_1_1_0 (fun _ b => b) (broadcastInDim S20000x80 ![] bcast_S_S20000x80 (constant S_ .f32 0x3F800000#32)) (broadcastInDim S1 ![] bcast_S_S1 (constantI S_ 32 0#32)) (id (select (cmpf .ogt (Host.reduceAdd (res_main_v7 V) (constant S_ .f32 0x00000000#32) reducesTo_S20000x128_S20000_d1 h_S_) (broadcastInDim S20000 ![] bcast_S_S20000 (constant S_ .f32 0x00000000#32))) (broadcastInDim S20000 ![] bcast_S_S20000 (constant S_ .f32 0x00000000#32)) (broadcastInDim S20000 ![] bcast_S_S20000 (constant S_ .f32 0x3F800000#32)))) : FVec Ideal S20000x80 .f32) (broadcastInDim S20000x80 ![] bcast_S_S20000x80 (constant S_ .f32 0x00000000#32))) (mulf (Host.negf (Host.log (subf (broadcastInDim S20000x80 ![] bcast_S_S20000x80 (constant S_ .f32 0x3F800000#32)) (res_main_v6 V)))) (Host.powf (res_main_v6 V) (broadcastInDim S20000x80 ![] bcast_S_S20000x80 (constant S_ .f32 0x40000000#32)))) (broadcastInDim S20000x80 ![] bcast_S_S20000x80 (id (constant S_ .f32 0x00000000#32))))

/-- The reference's first positive losses, over rows and columns. -/
def posArr : FVec Ideal S20000x128 .f32 :=
  (select (res_main_v68 V) (mulf (broadcastInDim S20000x128 ![0, 1] bcast_S20000x1_S20000x128_0_1 (broadcastInDim S20000x1 ![0] bcast_S20000_S20000x1_0 (Host.log (res_main_v56 V)))) (Host.powf (mulf (res_main_v69 V) (broadcastInDim S20000x128 ![0, 1] bcast_S20000x1_S20000x128_0_1 (broadcastInDim S20000x1 ![0] bcast_S20000_S20000x1_0 (subf (broadcastInDim S20000 ![] bcast_S_S20000 (constant S_ .f32 0x3F800000#32)) (res_main_v56 V))))) (broadcastInDim S20000x128 ![] bcast_S_S20000x128 (constant S_ .f32 0x40000000#32)))) (broadcastInDim S20000x128 ![] bcast_S_S20000x128 (id (constant S_ .f32 0x00000000#32))))

/-- The reference's second positive losses, over rows and columns. -/
def boxArr : FVec Ideal S20000x128 .f32 :=
  (select (res_main_v68 V) (mulf (broadcastInDim S20000x128 ![0, 1] bcast_S20000x1_S20000x128_0_1 (broadcastInDim S20000x1 ![0] bcast_S20000_S20000x1_0 (Host.log (subf (broadcastInDim S20000 ![] bcast_S_S20000 (constant S_ .f32 0x3F800000#32)) (res_main_v56 V))))) (Host.powf (mulf (subf (broadcastInDim S20000x128 ![] bcast_S_S20000x128 (constant S_ .f32 0x3F800000#32)) (res_main_v69 V)) (broadcastInDim S20000x128 ![0, 1] bcast_S20000x1_S20000x128_0_1 (broadcastInDim S20000x1 ![0] bcast_S20000_S20000x1_0 (res_main_v56 V)))) (broadcastInDim S20000x128 ![] bcast_S_S20000x128 (constant S_ .f32 0x40000000#32)))) (broadcastInDim S20000x128 ![] bcast_S_S20000x128 (id (constant S_ .f32 0x00000000#32))))

theorem negArr_at (n : Fin 20000) (k : Fin 80) : negArr V (ix2 n k)
    = if k = 0 ∧ 0 < ∑ g : Fin 128, fF V n g then (0 : EReal)
      else -Ideal.log (1 - bp (aLg V (ix2 n k))) * Ideal.pow (bp (aLg V (ix2 n k))) (Ideal.ofBits FTy.f32 0x40000000#32) := by
  refine (neg_at (res_main_v6 V) (res_main_v7 V) n k).trans ?_
  rw [v6_at]
  rfl

variable (σ γ : Fin 20000 → Fin 80 → ℝ) (cl : Fin 128 → Fin 80) (M : Fin 20000 → Fin 128 → Prop)
variable {V σ γ cl M}
variable (D : Drawn V σ γ cl M)
include D

open Classical in
theorem negArr_eq (n : Fin 20000) (k : Fin 80) :
    negArr V (ix2 n k) = ((if k = 0 ∧ inBox M n then 0 else ph (aLg V (ix2 n k)) : ℝ) : EReal) := by
  have hs : ∑ g : Fin 128, fF V n g = ∑ g : Fin 128, (if M n g then (1 : EReal) else 0) := Finset.sum_congr rfl fun g _ => fF_eq D n g
  have hi : (0 < ∑ g : Fin 128, fF V n g) ↔ inBox M n := by rw [hs]; rfl
  rw [negArr_at]
  by_cases h : k = 0 ∧ inBox M n
  · rw [if_pos h, if_pos (And.intro h.1 (hi.2 h.2)), EReal.coe_zero]
  · rw [if_neg h, if_neg (fun q => h (And.intro q.1 (hi.1 q.2))), log_one_sub, (bp_eq _).1, Loss.pow_two, ← EReal.coe_neg, ← EReal.coe_mul]
    rfl

open Classical in
theorem posArr_eq (n : Fin 20000) (g : Fin 128) :
    posArr V (ix2 n g) = ((if M n g then Real.log (be (aLg V (ix2 n 0)))
      * ((wt σ γ cl M n g * (1 - be (aLg V (ix2 n 0)))) * (wt σ γ cl M n g * (1 - be (aLg V (ix2 n 0))))) else 0 : ℝ) : EReal) := by
  refine (pos_at (res_main_v68 V) (res_main_v69 V) (res_main_v56 V) n g).trans ?_
  rw [v68_at V cl D.lab, sel_dec, v69_at V cl D.lab, v56_at]
  by_cases h : M n g
  · rw [if_pos ((PR_iff D n g).2 h), if_pos h, dR_eq D n g h, log_bp, one_sub_bp, ← EReal.coe_mul, Loss.pow_two, ← EReal.coe_mul]
  · rw [if_neg fun q => h ((PR_iff D n g).1 q), if_neg h, EReal.coe_zero]

open Classical in
theorem boxArr_eq (n : Fin 20000) (g : Fin 128) :
    boxArr V (ix2 n g) = ((if M n g then Real.log (1 - be (aLg V (ix2 n 0)))
      * (((1 - wt σ γ cl M n g) * be (aLg V (ix2 n 0))) * ((1 - wt σ γ cl M n g) * be (aLg V (ix2 n 0)))) else 0 : ℝ) : EReal) := by
  refine (box_at (res_main_v68 V) (res_main_v69 V) (res_main_v56 V) n g).trans ?_
  rw [v68_at V cl D.lab, sel_dec, v69_at V cl D.lab, v56_at]
  by_cases h : M n g
  · rw [if_pos ((PR_iff D n g).2 h), if_pos h, dR_eq D n g h, log_one_sub, (bp_eq _).1, ← EReal.coe_one, ← EReal.coe_sub, ← EReal.coe_mul,
      Loss.pow_two, ← EReal.coe_mul]
  · rw [if_neg fun q => h ((PR_iff D n g).1 q), if_neg h, EReal.coe_zero]

/-- The three sums, weighted, are the reference's total. -/
theorem sums_eq : (∑ n, ∑ k, negArr V (ix2 n k)) * Ideal.ofBits FTy.f32 0x3F400000#32
      + (-∑ n, ∑ g, posArr V (ix2 n g)) * Ideal.ofBits FTy.f32 0x3E800000#32
      + (-∑ n, ∑ g, boxArr V (ix2 n g)) * Ideal.ofBits FTy.f32 0x3E800000#32
    = (referenceTotal (fun n k => aLg V (ix2 n k)) (wt σ γ cl M) M : EReal) := by
  classical
  simp only [negArr_eq D, posArr_eq D, boxArr_eq D, ← coe_sum]
  rw [c34_eq, c14_eq, ← EReal.coe_neg, ← EReal.coe_neg, ← EReal.coe_mul, ← EReal.coe_mul, ← EReal.coe_mul, ← EReal.coe_add, ← EReal.coe_add]
  rfl

/-- What the reference's result holds. -/
theorem result_eq (j : S_.Idx) :
    (val3 V (Proc.devRef .tc main_v105) : FVec Ideal S_ .f32) j
      = Ideal.div (referenceTotal (fun n k => aLg V (ix2 n k)) (wt σ γ cl M) M : EReal)
          (FloatOps.sitofp (F := Ideal) FTy.f32 ((V (Proc.devRef .tc main_arg5) : IVec S_ 32) ix0)) := by
  refine (congrFun (val3_main_v105 V) j).trans ?_
  refine (mean_at (negArr V) (posArr V) (boxArr V) (V (Proc.devRef .tc main_arg5)) j).trans ?_
  rw [sums_eq D]

end Cert.Proof.RefVal

end
-- ==== Proof.Drawn.lean ====
/-
  The precondition read at a place: scores and overlaps that are real numbers, indicators zero or one, labels that are classes.
-/
module

public import proofs.«01_k».proof.Defs
public import proofs.«01_k».proof.Proof.Gen.Pre_drawn
public import proofs.«01_k».proof.Proof.KerTotal
public import proofs.«01_k».proof.Proof.RefTotal

@[expose] public section

noncomputable section

namespace Cert.Proof.Drawing

open Idealize.ShloMosaic Idealize.ShloMosaic.TcCoe Cert.Proof.Loss Cert.Pre_drawn

theorem zero_word : Ideal.ofBits FTy.f32 0x00000000#32 = (0 : EReal) := by simp [Ideal.ofBits, Ideal.ieee]
theorem one_word : Ideal.ofBits FTy.f32 0x3F800000#32 = (1 : EReal) := by
  simp [Ideal.ofBits, Ideal.ieee]
  rw [← EReal.coe_mul]
  norm_num
theorem top_word : Ideal.ofBits FTy.f32 0x7F800000#32 = (⊤ : EReal) := by simp [Ideal.ofBits, Ideal.ieee]

/-- A truth value's bit is one just when it is true. -/
theorem of_bit (p : Prop) (d : Decidable p) (h : BitVec.ofBool (@decide p d) = 1#1) : p := by
  by_contra hp
  rw [decide_eq_false hp] at h
  exact absurd h (by decide)

theorem of_bool (b : Bool) (h : BitVec.ofBool b = 1#1) : b = true := by
  cases b
  · exact absurd h (by decide)
  · rfl

variable (x0 x1 x2 : FVec Ideal S20000x80 .f32) (x3 : IVec S20000x128 32) (x4 : IVec S128 32) (x5 : IVec S_ 32)

/-- A score or an overlap that is at least zero and below infinity is a nonnegative real number. -/
theorem real_of (y : EReal) (h0 : 0 ≤ y) (h1 : y < ⊤) : y = (y.toReal : EReal) ∧ 0 ≤ y.toReal :=
  ⟨(EReal.coe_toReal h1.ne (fun h => absurd (h ▸ h0) (by simp))).symm, EReal.toReal_nonneg h0⟩

theorem score_lo (h : (fn (F := Ideal) x0 x1 x2 x3 x4 x5).1 = fun _ => 1#1) (i : S20000x80.Idx) : (0 : EReal) ≤ x1 i :=
  zero_word ▸ of_bit _ _ (congrFun h i)
theorem score_hi (h : (fn (F := Ideal) x0 x1 x2 x3 x4 x5).2.1 = fun _ => 1#1) (i : S20000x80.Idx) : x1 i ≤ (1 : EReal) :=
  one_word ▸ of_bit _ _ (congrFun h i)
theorem over_lo (h : (fn (F := Ideal) x0 x1 x2 x3 x4 x5).2.2.1 = fun _ => 1#1) (i : S20000x80.Idx) : (0 : EReal) ≤ x2 i :=
  zero_word ▸ of_bit _ _ (congrFun h i)
theorem over_hi (h : (fn (F := Ideal) x0 x1 x2 x3 x4 x5).2.2.2.1 = fun _ => 1#1) (i : S20000x80.Idx) : x2 i < (⊤ : EReal) :=
  top_word ▸ of_bit _ _ (congrFun h i)
theorem ind_lo (h : (fn (F := Ideal) x0 x1 x2 x3 x4 x5).2.2.2.2.1 = fun _ => 1#1) (i : S20000x128.Idx) : 0 ≤ (x3 i).toInt := by
  have h1 : (0#32 : BitVec 32).sle (x3 i) = true := of_bool _ (congrFun h i)
  exact BitVec.sle_iff_toInt_le.1 h1
theorem ind_hi (h : (fn (F := Ideal) x0 x1 x2 x3 x4 x5).2.2.2.2.2.1 = fun _ => 1#1) (i : S20000x128.Idx) : (x3 i).toInt ≤ 1 := by
  have h1 : (x3 i).sle (1#32) = true := of_bool _ (congrFun h i)
  exact BitVec.sle_iff_toInt_le.1 h1
theorem lab_lo (h : (fn (F := Ideal) x0 x1 x2 x3 x4 x5).2.2.2.2.2.2.1 = fun _ => 1#1) (i : S128.Idx) : 0 ≤ (x4 i).toInt := by
  have h1 : (0#32 : BitVec 32).sle (x4 i) = true := of_bool _ (congrFun h i)
  exact BitVec.sle_iff_toInt_le.1 h1
theorem lab_hi (h : (fn (F := Ideal) x0 x1 x2 x3 x4 x5).2.2.2.2.2.2.2 = fun _ => 1#1) (i : S128.Idx) : (x4 i).toInt < 80 := by
  have h1 : (x4 i).slt (80#32) = true := of_bool _ (congrFun h i)
  exact BitVec.slt_iff_toInt_lt.1 h1

/-- A word between zero and one is one or zero. -/
theorem ind_cases (w : BitVec 32) (h0 : 0 ≤ w.toInt) (h1 : w.toInt ≤ 1) (h : w ≠ 1#32) : w = 0#32 := by
  refine BitVec.toInt_inj.1 ?_
  have h2 : w.toInt ≠ 1 := fun q => h (BitVec.toInt_inj.1 (q.trans (by decide)))
  have h3 : (0#32 : BitVec 32).toInt = 0 := by decide
  omega

/-- A word from zero to seventy-nine is a class. -/
theorem lab_class (w : BitVec 32) (h0 : 0 ≤ w.toInt) (h1 : w.toInt < 80) : w.toNat < 80 := by
  rw [BitVec.toInt_eq_toNat_cond] at h0 h1
  have := w.isLt
  split at h1 <;> omega

end Cert.Proof.Drawing

namespace Cert.Proof

open Idealize.ShloMosaic Idealize.ShloMosaic.TcCoe Cert.KernelIdeal Cert.Proof.Loss

/-- Arguments that meet the precondition are drawn: there are real scores and overlaps, classes, and a mask that they hold. -/
theorem drawn_of (m : (ℓ : Loc nD τ sig) → Buf (Elt Ideal) ℓ) (h : Cert.Pre_KernelIdeal_drawn (hPre_drawn := Cert.Pre_drawn.Gen.facts) m) (c : Dev nD) :
    ∃ (σ γ : Fin 20000 → Fin 80 → ℝ) (cl : Fin 128 → Fin 80) (M : Fin 20000 → Fin 128 → Prop), IdealRun.Drawn m c σ γ cl M := by
  obtain ⟨h1, h2, h3, h4, h5, h6, h7, h8⟩ := h c
  refine ⟨fun n k => EReal.toReal (IdealRun.gSc m c (ix2 n k)), fun n k => EReal.toReal (IdealRun.gGi m c (ix2 n k)),
    fun g => ⟨(IdealRun.gLab m c (ix1 g)).toNat, Drawing.lab_class _ (Drawing.lab_lo _ _ _ _ _ _ h7 _) (Drawing.lab_hi _ _ _ _ _ _ h8 _)⟩,
    fun n g => IdealRun.gIb m c (ix2 n g) = 1#32, ?_⟩
  have s0 := fun n k => Drawing.score_lo _ _ _ _ _ _ h1 (ix2 (n : Fin 20000) (k : Fin 80))
  have s1 := fun n k => Drawing.score_hi _ _ _ _ _ _ h2 (ix2 (n : Fin 20000) (k : Fin 80))
  have q0 := fun n k => Drawing.over_lo _ _ _ _ _ _ h3 (ix2 (n : Fin 20000) (k : Fin 80))
  have q1 := fun n k => Drawing.over_hi _ _ _ _ _ _ h4 (ix2 (n : Fin 20000) (k : Fin 80))
  have st := fun n k => (s1 n k).trans_lt (EReal.coe_lt_top 1)
  refine ⟨fun n k => (Drawing.real_of _ (s0 n k) (st n k)).1, fun n k => (Drawing.real_of _ (q0 n k) (q1 n k)).1, fun n g => ?_, fun g => ?_,
    fun n k => (Drawing.real_of _ (s0 n k) (st n k)).2, fun n k => ?_, fun n k => (Drawing.real_of _ (q0 n k) (q1 n k)).2⟩
  · by_cases hg : IdealRun.gIb m c (ix2 n g) = 1#32
    · rw [if_pos hg]
      exact hg
    · rw [if_neg hg]
      exact Drawing.ind_cases _ (Drawing.ind_lo _ _ _ _ _ _ h5 _) (Drawing.ind_hi _ _ _ _ _ _ h6 _) hg
  · show _ = BitVec.ofNat 32 (BitVec.toNat _)
    rw [BitVec.ofNat_toNat, BitVec.setWidth_eq]
  · refine EReal.coe_le_coe_iff.1 ?_
    rw [← (Drawing.real_of _ (s0 n k) (st n k)).1]
    exact s1 n k

end Cert.Proof

end
-- ==== Proof.Algebraic.lean ====
/-
  The value claim: over drawn arguments the kernel and the reference end with the same result.
-/
module

public import proofs.«01_k».proof.Proof.Drawn

@[expose] public section

noncomputable section

namespace Cert.Proof

open Idealize.ShloMosaic Idealize.ShloMosaic.TcCoe Idealize.SL.Sem Cert.Proof.Loss

/-- The reference's result over arguments equal to the kernel's drawn ones is the kernel's result. -/
theorem reference_result (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (e0 : RefVal.aLg V = IdealRun.gLg m c) (e1 : RefVal.aSc V = IdealRun.gSc m c) (e2 : RefVal.aGi V = IdealRun.gGi m c)
    (e3 : RefVal.aIb V = IdealRun.gIb m c) (e4 : RefVal.aLab V = IdealRun.gLab m c)
    (e5 : (V (Proc.devRef .tc Cert.ReferenceIdeal.main_arg5) : IVec Cert.ReferenceIdeal.S_ 32) = IdealRun.gN m c)
    (σ γ : Fin 20000 → Fin 80 → ℝ) (cl : Fin 128 → Fin 80) (M : Fin 20000 → Fin 128 → Prop) (D : IdealRun.Drawn m c σ γ cl M) :
    (Cert.ReferenceIdeal.Value.val3 V (Proc.devRef .tc Cert.ReferenceIdeal.main_v105) : FVec Ideal Cert.ReferenceIdeal.S_ .f32) = IdealRun.result m c := by
  have D' : RefVal.Drawn V σ γ cl M :=
    ⟨fun n k => (congrFun e1 _).trans (D.sc n k), fun n k => (congrFun e2 _).trans (D.gi n k), fun n g => (congrFun e3 _).trans (D.ib n g),
      fun g => (congrFun e4 _).trans (D.lab g), D.s0, D.q0⟩
  funext j
  refine (RefVal.result_eq D' j).trans ?_
  rw [← totals_eq, e0, e5]
  show _ = Ideal.div (IdealRun.total m c) _
  rw [IdealRun.total_eq D]

/-- From drawn arguments, the same on both sides, the kernel and the reference each run and end with one and the same result. -/
theorem algebraic : Cert.algebraic_KernelIdeal_ReferenceIdeal_pre_drawn (hPre_drawn := Cert.Pre_drawn.Gen.facts) := by
  intro m g m' g' hpre hargs
  refine ⟨fun c => IdealRun.result m c, IdealRun.run_value m g, ?_⟩
  refine (θ_run Cert.ReferenceIdeal.defs _ _).mono (fun r h c => ⟨?_, (h c).2⟩) (Cert.ReferenceIdeal.Value.run (F := Ideal) m' g')
  obtain ⟨σ, γ, cl, M, D⟩ := drawn_of m hpre c
  obtain ⟨e0, e1, e2, e3, e4, e5⟩ := hargs c
  exact (h c).1.trans ((Cert.ReferenceIdeal.Value.val3_main_v105 _).symm.trans (reference_result m c _ e0 e1 e2 e3 e4 e5 σ γ cl M D))

end Cert.Proof

end
-- ==== Proof.lean ====
/-
  The certificate: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Frames
public import proofs.«01_k».proof.Proof.Algebraic

@[expose] public section

noncomputable section

namespace Cert.Proof

open Idealize.ShloMosaic Idealize.SL.Sem

/-- The kernel over the extended reals runs and leaves its arguments as they were, from drawn arguments too. -/
theorem frame_ideal_drawn : Cert.quiescent_KernelIdeal_pre_drawn (hPre_drawn := Cert.Pre_drawn.Gen.facts) :=
  fun m ρ _ => Cert.Proof.IdealRun.frame (F := Ideal) m ρ

/-- The reference runs and leaves its arguments as they were, from drawn arguments too. -/
theorem frame_reference_drawn : Cert.quiescent_ReferenceIdeal_pre_drawn (hPre_drawn := Cert.Pre_drawn.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Pre_drawn.Gen.facts,
    frame_kernel, frame_ideal, frame_ideal_drawn, frame_reference, frame_reference_drawn, preserves, algebraic⟩

end Cert.Proof

end
